-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S80x2x384 Cert.KernelIdeal.S80x1x384
  ∧ IdealRules.bf16_pair.PackStatement Cert.KernelIdeal.S8x384
  ∧ IdealRules.bf16_pair.Statement Cert.KernelIdeal.S8x2x384 Cert.KernelIdeal.S8x1x384
  ∧ IdealRules.bf16_pair.Statement Cert.KernelIdeal.S1x2x384 Cert.KernelIdeal.S1x1x384
  ∧ IdealRules.bf16_pair.Statement Cert.KernelIdeal.S2x384 Cert.KernelIdeal.S1x384

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x5120 : Shape := ⟨3, ![8, 256, 5120]⟩
abbrev S2560x3456 : Shape := ⟨2, ![2560, 3456]⟩
abbrev S80x3456 : Shape := ⟨2, ![80, 3456]⟩
abbrev S10x3456 : Shape := ⟨2, ![10, 3456]⟩
abbrev S3456 : Shape := ⟨1, ![3456]⟩
abbrev S5120x16 : Shape := ⟨2, ![5120, 16]⟩
abbrev S16x3456 : Shape := ⟨2, ![16, 3456]⟩
abbrev S2048x5120 : Shape := ⟨2, ![2048, 5120]⟩
abbrev S1x3456 : Shape := ⟨2, ![1, 3456]⟩
abbrev S2048x3456 : Shape := ⟨2, ![2048, 3456]⟩
abbrev S2560x384 : Shape := ⟨2, ![2560, 384]⟩
abbrev S80x384 : Shape := ⟨2, ![80, 384]⟩
abbrev S10x384 : Shape := ⟨2, ![10, 384]⟩
abbrev S1x384 : Shape := ⟨2, ![1, 384]⟩
abbrev S16x384 : Shape := ⟨2, ![16, 384]⟩
abbrev S2048x384 : Shape := ⟨2, ![2048, 384]⟩
abbrev S5120x384 : Shape := ⟨2, ![5120, 384]⟩
abbrev S2048x16 : Shape := ⟨2, ![2048, 16]⟩
abbrev S512x5120 : Shape := ⟨2, ![512, 5120]⟩
abbrev S512x16 : Shape := ⟨2, ![512, 16]⟩
abbrev S8x384 : Shape := ⟨2, ![8, 384]⟩
abbrev S32x384 : Shape := ⟨2, ![32, 384]⟩
abbrev S64x384 : Shape := ⟨2, ![64, 384]⟩
abbrev S2x384 : Shape := ⟨2, ![2, 384]⟩
abbrev S512x384 : Shape := ⟨2, ![512, 384]⟩

abbrev nBuf : Space → Nat
  | .hbm => 10
  | .vmem => 17
  | .smem => 0
  | _ => 0

abbrev bufTy : (tb : Table) → Fin (tcTables nBuf tb) → BufTy
  | .hbm, ⟨0, _⟩ => ⟨S8x256x5120, .bf16⟩
  | .hbm, ⟨1, _⟩ => ⟨S2560x3456, .i8⟩
  | .hbm, ⟨2, _⟩ => ⟨S80x3456, .i8⟩
  | .hbm, ⟨3, _⟩ => ⟨S10x3456, .f32⟩
  | .hbm, ⟨4, _⟩ => ⟨S3456, .f32⟩
  | .hbm, ⟨5, _⟩ => ⟨S5120x16, .bf16⟩
  | .hbm, ⟨6, _⟩ => ⟨S16x3456, .bf16⟩
  | .hbm, ⟨7, _⟩ => ⟨S2048x5120, .bf16⟩
  | .hbm, ⟨8, _⟩ => ⟨S1x3456, .f32⟩
  | .hbm, ⟨9, _⟩ => ⟨S2048x3456, .bf16⟩
  | .local _ .vmem, ⟨0, _⟩ => ⟨S2048x5120, .bf16⟩
  | .local _ .vmem, ⟨1, _⟩ => ⟨S2560x384, .i8⟩
  | .local _ .vmem, ⟨2, _⟩ => ⟨S2560x384, .i8⟩
  | .local _ .vmem, ⟨3, _⟩ => ⟨S80x384, .i8⟩
  | .local _ .vmem, ⟨4, _⟩ => ⟨S80x384, .i8⟩
  | .local _ .vmem, ⟨5, _⟩ => ⟨S10x384, .f32⟩
  | .local _ .vmem, ⟨6, _⟩ => ⟨S10x384, .f32⟩
  | .local _ .vmem, ⟨7, _⟩ => ⟨S1x384, .f32⟩
  | .local _ .vmem, ⟨8, _⟩ => ⟨S1x384, .f32⟩
  | .local _ .vmem, ⟨9, _⟩ => ⟨S5120x16, .bf16⟩
  | .local _ .vmem, ⟨10, _⟩ => ⟨S16x384, .bf16⟩
  | .local _ .vmem, ⟨11, _⟩ => ⟨S16x384, .bf16⟩
  | .local _ .vmem, ⟨12, _⟩ => ⟨S2048x384, .bf16⟩
  | .local _ .vmem, ⟨13, _⟩ => ⟨S2048x384, .bf16⟩
  | .local _ .vmem, ⟨14, _⟩ => ⟨S5120x384, .bf16⟩
  | .local _ .vmem, ⟨15, _⟩ => ⟨S80x384, .i32⟩
  | .local _ .vmem, ⟨16, _⟩ => ⟨S2048x16, .bf16⟩
  | _, _ => ⟨S8x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5120x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S80x2x384 : Shape := ⟨3, ![80, 2, 384]⟩
abbrev S80x1x384 : Shape := ⟨3, ![80, 1, 384]⟩
abbrev S8x2x384 : Shape := ⟨3, ![8, 2, 384]⟩
abbrev S8x1x384 : Shape := ⟨3, ![8, 1, 384]⟩
abbrev S1x2x384 : Shape := ⟨3, ![1, 2, 384]⟩
abbrev S1x1x384 : Shape := ⟨3, ![1, 1, 384]⟩
  | .local _ .vmem, ⟨15, _⟩ => ⟨S80x2x384, .bf16⟩
variable {F : FTy → Type} [FloatOps F]
-- ==== ReferenceIdeal.lean ====
abbrev S8x256x5120 : Shape := ⟨3, ![8, 256, 5120]⟩
abbrev S2560x3456 : Shape := ⟨2, ![2560, 3456]⟩
abbrev S80x3456 : Shape := ⟨2, ![80, 3456]⟩
abbrev S10x3456 : Shape := ⟨2, ![10, 3456]⟩
abbrev S3456 : Shape := ⟨1, ![3456]⟩
abbrev S5120x16 : Shape := ⟨2, ![5120, 16]⟩
abbrev S16x3456 : Shape := ⟨2, ![16, 3456]⟩
abbrev S10x8x3456 : Shape := ⟨3, ![10, 8, 3456]⟩
abbrev S10x1x3456 : Shape := ⟨3, ![10, 1, 3456]⟩
abbrev S1x3456 : Shape := ⟨2, ![1, 3456]⟩
abbrev S_ : Shape := ⟨0, ![]⟩
abbrev S2560x1x3456 : Shape := ⟨3, ![2560, 1, 3456]⟩
abbrev S2560x2x3456 : Shape := ⟨3, ![2560, 2, 3456]⟩
abbrev S5120x3456 : Shape := ⟨2, ![5120, 3456]⟩
abbrev S80x64x3456 : Shape := ⟨3, ![80, 64, 3456]⟩
abbrev S80x1x3456 : Shape := ⟨3, ![80, 1, 3456]⟩
abbrev S2048x5120 : Shape := ⟨2, ![2048, 5120]⟩
abbrev S2048x3456 : Shape := ⟨2, ![2048, 3456]⟩
abbrev S2048x16 : Shape := ⟨2, ![2048, 16]⟩

abbrev nBuf : Space → Nat
  | .hbm => 115
  | .vmem => 0
  | .smem => 0
  | _ => 0

abbrev bufTy : (tb : Table) → Fin (tcTables nBuf tb) → BufTy
  | .hbm, ⟨0, _⟩ => ⟨S8x256x5120, .bf16⟩
  | .hbm, ⟨1, _⟩ => ⟨S2560x3456, .i8⟩
  | .hbm, ⟨2, _⟩ => ⟨S80x3456, .i8⟩
  | .hbm, ⟨3, _⟩ => ⟨S10x3456, .f32⟩
  | .hbm, ⟨4, _⟩ => ⟨S3456, .f32⟩
  | .hbm, ⟨5, _⟩ => ⟨S5120x16, .bf16⟩
  | .hbm, ⟨6, _⟩ => ⟨S16x3456, .bf16⟩
  | .hbm, ⟨7, _⟩ => ⟨S80x3456, .i32⟩
  | .hbm, ⟨8, _⟩ => ⟨S80x3456, .f32⟩
  | .hbm, ⟨9, _⟩ => ⟨S10x8x3456, .f32⟩
  | .hbm, ⟨10, _⟩ => ⟨S10x1x3456, .f32⟩
  | .hbm, ⟨11, _⟩ => ⟨S10x8x3456, .f32⟩
  | .hbm, ⟨12, _⟩ => ⟨S10x8x3456, .f32⟩
  | .hbm, ⟨13, _⟩ => ⟨S80x3456, .f32⟩
  | .hbm, ⟨14, _⟩ => ⟨S1x3456, .f32⟩
  | .hbm, ⟨15, _⟩ => ⟨S80x3456, .f32⟩
  | .hbm, ⟨16, _⟩ => ⟨S80x3456, .f32⟩
  | .hbm, ⟨17, _⟩ => ⟨S80x3456, .bf16⟩
  | .hbm, ⟨18, _⟩ => ⟨S2560x3456, .i32⟩
  | .hbm, ⟨19, _⟩ => ⟨S_, .i32⟩
  | .hbm, ⟨20, _⟩ => ⟨S2560x3456, .i32⟩
  | .hbm, ⟨21, _⟩ => ⟨S2560x3456, .i32⟩
  | .hbm, ⟨22, _⟩ => ⟨S_, .i32⟩
  | .hbm, ⟨23, _⟩ => ⟨S2560x3456, .i32⟩
  | .hbm, ⟨24, _⟩ => ⟨S2560x3456, .i32⟩
  | .hbm, ⟨25, _⟩ => ⟨S2560x1x3456, .i32⟩
  | .hbm, ⟨26, _⟩ => ⟨S2560x1x3456, .i32⟩
  | .hbm, ⟨27, _⟩ => ⟨S2560x2x3456, .i32⟩
  | .hbm, ⟨28, _⟩ => ⟨S5120x3456, .i32⟩
  | .hbm, ⟨29, _⟩ => ⟨S_, .i32⟩
  | .hbm, ⟨30, _⟩ => ⟨S5120x3456, .i32⟩
  | .hbm, ⟨31, _⟩ => ⟨S5120x3456, .i32⟩
  | .hbm, ⟨32, _⟩ => ⟨S_, .i32⟩
  | .hbm, ⟨33, _⟩ => ⟨S5120x3456, .i32⟩
  | .hbm, ⟨34, _⟩ => ⟨S5120x3456, .i1⟩
  | .hbm, ⟨35, _⟩ => ⟨S_, .i32⟩
  | .hbm, ⟨36, _⟩ => ⟨S5120x3456, .i32⟩
  | .hbm, ⟨37, _⟩ => ⟨S5120x3456, .i32⟩
  | .hbm, ⟨38, _⟩ => ⟨S_, .i32⟩
  | .hbm, ⟨39, _⟩ => ⟨S5120x3456, .i32⟩
  | .hbm, ⟨40, _⟩ => ⟨S5120x3456, .i1⟩
  | .hbm, ⟨41, _⟩ => ⟨S_, .i32⟩
  | .hbm, ⟨42, _⟩ => ⟨S5120x3456, .i32⟩
  | .hbm, ⟨43, _⟩ => ⟨S5120x3456, .i32⟩
  | .hbm, ⟨44, _⟩ => ⟨S_, .i32⟩
  | .hbm, ⟨45, _⟩ => ⟨S5120x3456, .i32⟩
  | .hbm, ⟨46, _⟩ => ⟨S5120x3456, .i1⟩
  | .hbm, ⟨47, _⟩ => ⟨S_, .i32⟩
  | .hbm, ⟨48, _⟩ => ⟨S5120x3456, .i32⟩
  | .hbm, ⟨49, _⟩ => ⟨S5120x3456, .i32⟩
  | .hbm, ⟨50, _⟩ => ⟨S_, .i32⟩
  | .hbm, ⟨51, _⟩ => ⟨S5120x3456, .i32⟩
  | .hbm, ⟨52, _⟩ => ⟨S5120x3456, .i1⟩
  | .hbm, ⟨53, _⟩ => ⟨S_, .bf16⟩
  | .hbm, ⟨54, _⟩ => ⟨S_, .bf16⟩
  | .hbm, ⟨55, _⟩ => ⟨S5120x3456, .bf16⟩
  | .hbm, ⟨56, _⟩ => ⟨S5120x3456, .bf16⟩
  | .hbm, ⟨57, _⟩ => ⟨S5120x3456, .bf16⟩
  | .hbm, ⟨58, _⟩ => ⟨S_, .bf16⟩
  | .hbm, ⟨59, _⟩ => ⟨S_, .bf16⟩
  | .hbm, ⟨60, _⟩ => ⟨S5120x3456, .bf16⟩
  | .hbm, ⟨61, _⟩ => ⟨S5120x3456, .bf16⟩
  | .hbm, ⟨62, _⟩ => ⟨S5120x3456, .bf16⟩
  | .hbm, ⟨63, _⟩ => ⟨S_, .bf16⟩
  | .hbm, ⟨64, _⟩ => ⟨S_, .bf16⟩
  | .hbm, ⟨65, _⟩ => ⟨S5120x3456, .bf16⟩
  | .hbm, ⟨66, _⟩ => ⟨S5120x3456, .bf16⟩
  | .hbm, ⟨67, _⟩ => ⟨S5120x3456, .bf16⟩
  | .hbm, ⟨68, _⟩ => ⟨S_, .bf16⟩
  | .hbm, ⟨69, _⟩ => ⟨S_, .bf16⟩
  | .hbm, ⟨70, _⟩ => ⟨S5120x3456, .bf16⟩
  | .hbm, ⟨71, _⟩ => ⟨S5120x3456, .bf16⟩
  | .hbm, ⟨72, _⟩ => ⟨S5120x3456, .bf16⟩
  | .hbm, ⟨73, _⟩ => ⟨S_, .bf16⟩
  | .hbm, ⟨74, _⟩ => ⟨S_, .bf16⟩
  | .hbm, ⟨75, _⟩ => ⟨S5120x3456, .bf16⟩
  | .hbm, ⟨76, _⟩ => ⟨S5120x3456, .bf16⟩
  | .hbm, ⟨77, _⟩ => ⟨S5120x3456, .bf16⟩
  | .hbm, ⟨78, _⟩ => ⟨S_, .bf16⟩
  | .hbm, ⟨79, _⟩ => ⟨S_, .bf16⟩
  | .hbm, ⟨80, _⟩ => ⟨S5120x3456, .bf16⟩
  | .hbm, ⟨81, _⟩ => ⟨S5120x3456, .bf16⟩
  | .hbm, ⟨82, _⟩ => ⟨S5120x3456, .bf16⟩
  | .hbm, ⟨83, _⟩ => ⟨S_, .bf16⟩
  | .hbm, ⟨84, _⟩ => ⟨S_, .bf16⟩
  | .hbm, ⟨85, _⟩ => ⟨S5120x3456, .bf16⟩
  | .hbm, ⟨86, _⟩ => ⟨S5120x3456, .bf16⟩
  | .hbm, ⟨87, _⟩ => ⟨S5120x3456, .bf16⟩
  | .hbm, ⟨88, _⟩ => ⟨S_, .bf16⟩
  | .hbm, ⟨89, _⟩ => ⟨S_, .bf16⟩
  | .hbm, ⟨90, _⟩ => ⟨S5120x3456, .bf16⟩
  | .hbm, ⟨91, _⟩ => ⟨S5120x3456, .bf16⟩
  | .hbm, ⟨92, _⟩ => ⟨S5120x3456, .bf16⟩
  | .hbm, ⟨93, _⟩ => ⟨S5120x3456, .bf16⟩
  | .hbm, ⟨94, _⟩ => ⟨S5120x3456, .bf16⟩
  | .hbm, ⟨95, _⟩ => ⟨S5120x3456, .bf16⟩
  | .hbm, ⟨96, _⟩ => ⟨S5120x3456, .bf16⟩
  | .hbm, ⟨97, _⟩ => ⟨S5120x3456, .bf16⟩
  | .hbm, ⟨98, _⟩ => ⟨S5120x3456, .bf16⟩
  | .hbm, ⟨99, _⟩ => ⟨S5120x3456, .bf16⟩
  | .hbm, ⟨100, _⟩ => ⟨S80x64x3456, .bf16⟩
  | .hbm, ⟨101, _⟩ => ⟨S80x1x3456, .bf16⟩
  | .hbm, ⟨102, _⟩ => ⟨S80x64x3456, .bf16⟩
  | .hbm, ⟨103, _⟩ => ⟨S80x64x3456, .bf16⟩
  | .hbm, ⟨104, _⟩ => ⟨S5120x3456, .bf16⟩
  | .hbm, ⟨105, _⟩ => ⟨S2048x5120, .bf16⟩
  | .hbm, ⟨106, _⟩ => ⟨S2048x3456, .f32⟩
  | .hbm, ⟨107, _⟩ => ⟨S2048x16, .f32⟩
  | .hbm, ⟨108, _⟩ => ⟨S2048x16, .bf16⟩
  | .hbm, ⟨109, _⟩ => ⟨S2048x3456, .f32⟩
  | .hbm, ⟨110, _⟩ => ⟨S_, .f32⟩
  | .hbm, ⟨111, _⟩ => ⟨S2048x3456, .f32⟩
  | .hbm, ⟨112, _⟩ => ⟨S2048x3456, .f32⟩
  | .hbm, ⟨113, _⟩ => ⟨S2048x3456, .f32⟩
  | .hbm, ⟨114, _⟩ => ⟨S2048x3456, .bf16⟩
  | _, _ => ⟨S8x256x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_v36 : Ref sig .tc := ⟨.hbm, 57, rfl⟩
abbrev main_cst_10 : Ref sig .tc := ⟨.hbm, 58, rfl⟩
abbrev main_cst_11 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_cst_12 : Ref sig .tc := ⟨.hbm, 63, rfl⟩
abbrev main_cst_13 : Ref sig .tc := ⟨.hbm, 64, rfl⟩
abbrev main_call2_v0 : Ref sig .tc := ⟨.hbm, 65, rfl⟩
abbrev main_call2_v1 : Ref sig .tc := ⟨.hbm, 66, rfl⟩
abbrev main_v38 : Ref sig .tc := ⟨.hbm, 67, rfl⟩
abbrev main_cst_14 : Ref sig .tc := ⟨.hbm, 68, rfl⟩
abbrev main_cst_15 : Ref sig .tc := ⟨.hbm, 69, rfl⟩
abbrev main_call3_v0 : Ref sig .tc := ⟨.hbm, 70, rfl⟩
abbrev main_call3_v1 : Ref sig .tc := ⟨.hbm, 71, rfl⟩
abbrev main_v39 : Ref sig .tc := ⟨.hbm, 72, rfl⟩
abbrev main_cst_16 : Ref sig .tc := ⟨.hbm, 73, rfl⟩
abbrev main_cst_17 : Ref sig .tc := ⟨.hbm, 74, rfl⟩
abbrev main_call4_v0 : Ref sig .tc := ⟨.hbm, 75, rfl⟩
abbrev main_call4_v1 : Ref sig .tc := ⟨.hbm, 76, rfl⟩
abbrev main_v40 : Ref sig .tc := ⟨.hbm, 77, rfl⟩
abbrev main_cst_18 : Ref sig .tc := ⟨.hbm, 78, rfl⟩
abbrev main_cst_19 : Ref sig .tc := ⟨.hbm, 79, rfl⟩
abbrev main_call5_v0 : Ref sig .tc := ⟨.hbm, 80, rfl⟩
abbrev main_call5_v1 : Ref sig .tc := ⟨.hbm, 81, rfl⟩
abbrev main_v41 : Ref sig .tc := ⟨.hbm, 82, rfl⟩
abbrev main_cst_20 : Ref sig .tc := ⟨.hbm, 83, rfl⟩
abbrev main_cst_21 : Ref sig .tc := ⟨.hbm, 84, rfl⟩
abbrev main_call6_v0 : Ref sig .tc := ⟨.hbm, 85, rfl⟩
abbrev main_call6_v1 : Ref sig .tc := ⟨.hbm, 86, rfl⟩
abbrev main_v42 : Ref sig .tc := ⟨.hbm, 87, rfl⟩
abbrev main_cst_22 : Ref sig .tc := ⟨.hbm, 88, rfl⟩
abbrev main_cst_23 : Ref sig .tc := ⟨.hbm, 89, rfl⟩
abbrev main_call7_v0 : Ref sig .tc := ⟨.hbm, 90, rfl⟩
abbrev main_call7_v1 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_24 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩

abbrev nD : Nat := 1
abbrev τ : Topo := Topo.v7x

variable {F : FTy → Type} [FloatOps F]
-- ==== Proof.Pieces.lean ====
module

public import proofs.«01_k».proof.Proof.Gen.KernelIdeal.Value

/-! The stores of the kernel's body, written once each.

The body fills two scratch arrays piece by piece: ten pieces of block scales (eight rows each) and eighty
pieces of weights (sixty-four rows each). Every piece is the same computation at another offset, so each list
of pieces is a recursion over the number of pieces, and the lists the body leaves are these recursions. -/

@[expose] public section

set_option maxRecDepth 65536

noncomputable section

namespace Cert.KernelIdeal.Gen.Deq

open Cert.KernelIdeal Cert.KernelIdeal.Gen Idealize.ShloMosaic Idealize.ShloMosaic.TcCoe Idealize.SL.Sem

variable {F : FTy → Type} [FloatOps F]

/-- The codes of one block of sixty-four rows, one sixteen-bit word each: a byte's low four bits are the even
    row's code, its high four bits the odd row's. -/
def words (wp : Vec F S32x384 .i8) : IVec S64x384 16 :=
  bitcast S64x384 16
    (ori (andi (extui 32 wp natLt_8_32) (broadcast S32x384 15#32))
      (shli (andi (extui 32 wp natLt_8_32) (broadcast S32x384 240#32)) (broadcast S32x384 12#32)))
    bitcasts_S32x384_w32_S64x384_w16

/-- Whether the bits of the mask `k` occur in a code. -/
def bit (c : IVec S64x384 16) (k : BitVec 16) : IVec S64x384 1 :=
  cmpi .ne (andi c (broadcast S64x384 k)) (broadcast S64x384 0#16)

/-- A table entry at every element of a block. -/
def lev (b : BitVec 16) : FVec F S64x384 .bf16 := broadcast S64x384 (Scalar.ofBits .bf16 b)

/-- The sixteen-entry table looked up by a code's four bits. -/
def lut (b0 b1 b2 b3 : IVec S64x384 1) : FVec F S64x384 .bf16 :=
  select b3
    (select b2
      (select b1 (select b0 (lev 0x3F80#16) (lev 0x3F39#16)) (select b0 (lev 0x3F10#16) (lev 0x3EE2#16)))
      (select b1 (select b0 (lev 0x3EAD#16) (lev 0x3E7C#16)) (select b0 (lev 0x3E25#16) (lev 0x3DA3#16))))
    (select b2
      (select b1 (select b0 (lev 0x0000#16) (lev 0xBDBA#16)) (select b0 (lev 0xBE3D#16) (lev 0xBE92#16)))
      (select b1 (select b0 (lev 0xBECA#16) (lev 0xBF06#16)) (select b0 (lev 0xBF32#16) (lev 0xBF80#16))))

/-- The block's scale, at every row of the block: the scratch row holds each scale twice, and the first copy is
    read. -/
def scaleRow (am : Vec F S1x2x384 .bf16) : FVec F S64x384 .bf16 :=
  broadcastTo S64x384
    (shapeCast S1x384
      (extractStridedSlice S1x384 ![0, 0]
        (interleaveRows S2x384
          (shapeCast S1x384 (rowsOfParity 0 S1x1x384 am bitcasts_S1x2x384_w16_S1x1x384_w32) shapeCasts_S1x1x384_S1x384)
          (shapeCast S1x384 (rowsOfParity 1 S1x1x384 am bitcasts_S1x2x384_w16_S1x1x384_w32) shapeCasts_S1x1x384_S1x384)
          bitcasts_S2x384_w16_S1x384_w32)
        slices_S2x384_o0_0_S1x384)
      shapeCasts_S1x384_S1x384)
    broadcasts_S1x384_S64x384

/-- One block of sixty-four dequantized weight rows. -/
def blkW (wp : Vec F S32x384 .i8) (am : Vec F S1x2x384 .bf16) : FVec F S64x384 .bf16 :=
  shapeCast S64x384
    (mulf (lut (bit (words wp) 1#16) (bit (words wp) 2#16) (bit (words wp) 4#16) (bit (words wp) 8#16)) (scaleRow am))
    shapeCasts_S64x384_S64x384

/-- A group of eight blocks of scales lies inside their scratch. -/
theorem inbAm (n : ℕ) (h : n + 1 ≤ 10) : ∀ a, (![8 * n, 0, 0] : Fin 3 → ℕ) a + S8x2x384.size a ≤ S80x2x384.size a := by
  intro a; fin_cases a <;> simp <;> omega

/-- A group of eight rows of scale codes lies inside its window. -/
theorem inbCode (n : ℕ) (h : n + 1 ≤ 10) : ∀ a, (![8 * n, 0] : Fin 2 → ℕ) a + S8x384.size a ≤ S80x384.size a := by
  intro a; fin_cases a <;> simp <;> omega

/-- A row of group scales lies inside its window. -/
theorem inbScale (n : ℕ) (h : n + 1 ≤ 10) : ∀ a, (![n, 0] : Fin 2 → ℕ) a + S1x384.size a ≤ S10x384.size a := by
  intro a; fin_cases a <;> simp <;> omega

/-- One block of scales lies inside their scratch. -/
theorem inbRow (n : ℕ) (h : n + 1 ≤ 80) : ∀ a, (![n, 0, 0] : Fin 3 → ℕ) a + S1x2x384.size a ≤ S80x2x384.size a := by
  intro a; fin_cases a <;> simp <;> omega

/-- A block of packed codes lies inside its window. -/
theorem inbPack (n : ℕ) (h : n + 1 ≤ 80) : ∀ a, (![32 * n, 0] : Fin 2 → ℕ) a + S32x384.size a ≤ S2560x384.size a := by
  intro a; fin_cases a <;> simp <;> omega

/-- A block of weights lies inside their scratch. -/
theorem inbW (n : ℕ) (h : n + 1 ≤ 80) : ∀ a, (![64 * n, 0] : Fin 2 → ℕ) a + S64x384.size a ≤ S5120x384.size a := by
  intro a; fin_cases a <;> simp <;> omega

/-- The first `n` stores into the scratch of block scales, last first: store `g` holds the eight blocks that share
    scale row `g`. -/
def amPieces (arg3 : Memref sig .tc .vmem S80x384 .i8) (harg3 : arg3.IsWhole) (arg4 : Memref sig .tc .vmem S10x384 .f32) (harg4 : arg4.IsWhole)
    (arg5 : Memref sig .tc .vmem S1x384 .f32) (harg5 : arg5.IsWhole)
    (x2 : Vec F S80x384 .i8) (x3 : Vec F S10x384 .f32) (x4 : Vec F S1x384 .f32) :
    (n : ℕ) → n ≤ 10 → List (View.Piece (Elt F) S80x2x384 .bf16)
  | 0, _ => []
  | n + 1, h =>
    ⟨Rect.unit (s := S80x2x384) ![8 * n, 0, 0] S8x2x384.size (inbAm n h),
      k0_pay7
        (View.readAt (Elt F) arg3.view (Rect.unit (s := S80x384) ![8 * n, 0] S8x384.size (inbCode n h)).toLoadRect (harg3.unread x2))
        (View.readAt (Elt F) arg4.view (Rect.unit (s := S10x384) ![n, 0] S1x384.size (inbScale n h)).toLoadRect (harg4.unread x3))
        (View.readAt (Elt F) arg5.view (Rect.unit (s := S1x384) ![0, 0] S1x384.size inb_S1x384_S1x384_0_0).toLoadRect (harg5.unread x4))⟩ ::
      amPieces arg3 harg3 arg4 harg4 arg5 harg5 x2 x3 x4 n (Nat.le_of_succ_le h)

/-- The first `n` stores into the scratch of weights, last first, over the scratch of scales filled by the stores
    `am`: store `b` holds block `b`'s sixty-four rows. -/
def wPieces (arg2 : Memref sig .tc .vmem S2560x384 .i8) (harg2 : arg2.IsWhole) (arg10 : Memref sig .tc .vmem S80x2x384 .bf16)
    (x1 : Vec F S2560x384 .i8) (am : List (View.Piece (Elt F) S80x2x384 .bf16)) :
    (n : ℕ) → n ≤ 80 → List (View.Piece (Elt F) S5120x384 .bf16)
  | 0, _ => []
  | n + 1, h =>
    ⟨Rect.unit (s := S5120x384) ![64 * n, 0] S64x384.size (inbW n h),
      blkW
        (View.readAt (Elt F) arg2.view (Rect.unit (s := S2560x384) ![32 * n, 0] S32x384.size (inbPack n h)).toLoadRect (harg2.unread x1))
        (arg10.view.readCov am (Rect.unit (s := S80x2x384) ![n, 0, 0] S1x2x384.size (inbRow n h)).toLoadRect)⟩ ::
      wPieces arg2 harg2 arg10 x1 am n (Nat.le_of_succ_le h)

section Bridge

variable (c : Dev nD) (arg2 : Memref sig .tc .vmem S2560x384 .i8) (harg2 : arg2.IsWhole)
  (arg3 : Memref sig .tc .vmem S80x384 .i8) (harg3 : arg3.IsWhole) (arg4 : Memref sig .tc .vmem S10x384 .f32) (harg4 : arg4.IsWhole)
  (arg5 : Memref sig .tc .vmem S1x384 .f32) (harg5 : arg5.IsWhole) (arg10 : Memref sig .tc .vmem S80x2x384 .bf16)
  (x1 : Vec F S2560x384 .i8) (x2 : Vec F S80x384 .i8) (x3 : Vec F S10x384 .f32) (x4 : Vec F S1x384 .f32)

/-- The scales' stores where the first grid point runs. -/
theorem am_A : kernelRun0_A.sl.HS1_10 c arg3 harg3 arg4 harg4 arg5 harg5 x2 x3 x4
    = amPieces arg3 harg3 arg4 harg4 arg5 harg5 x2 x3 x4 10 (Nat.le_refl _) := rfl

/-- The scales' stores where a later grid point runs. -/
theorem am_B : kernelRun0_B.sl.HS1_10 c arg3 harg3 arg4 harg4 arg5 harg5 x2 x3 x4
    = amPieces arg3 harg3 arg4 harg4 arg5 harg5 x2 x3 x4 10 (Nat.le_refl _) := rfl

set_option maxHeartbeats 4000000 in
/-- The weights' stores where the first grid point runs. -/
theorem w_A : kernelRun0_A.sl.HS0_80 c arg2 harg2 arg3 harg3 arg4 harg4 arg5 harg5 arg10 x1 x2 x3 x4
    = wPieces arg2 harg2 arg10 x1 (kernelRun0_A.sl.HS1_10 c arg3 harg3 arg4 harg4 arg5 harg5 x2 x3 x4) 80 (Nat.le_refl _) := rfl

set_option maxHeartbeats 4000000 in
/-- The weights' stores where a later grid point runs. -/
theorem w_B : kernelRun0_B.sl.HS0_80 c arg2 harg2 arg3 harg3 arg4 harg4 arg5 harg5 arg10 x1 x2 x3 x4
    = wPieces arg2 harg2 arg10 x1 (kernelRun0_B.sl.HS1_10 c arg3 harg3 arg4 harg4 arg5 harg5 x2 x3 x4) 80 (Nat.le_refl _) := rfl

end Bridge

end Cert.KernelIdeal.Gen.Deq

end
-- ==== Proof.Weights.lean ====
module

public import proofs.«01_k».proof.Proof.Pieces
public import Idealize.ShloMosaic.Lib.BitcastPair
public import Idealize.ShloMosaic.Lib.Pointwise

@[expose] public section

set_option maxRecDepth 16384

noncomputable section

namespace Cert.KernelIdeal.Gen.Deq

open Cert.KernelIdeal Cert.KernelIdeal.Gen Idealize.ShloMosaic Idealize.ShloMosaic.TcCoe Idealize.SL.Sem

variable {F : FTy → Type} [FloatOps F]

/-- The scale of block `b` in column `n`: the block's code times its group's scale, plus the column's offset, rounded. -/
def amVal (x2 : Vec F S80x384 .i8) (x3 : Vec F S10x384 .f32) (x4 : Vec F S1x384 .f32) (b : Fin 80) (n : Fin 384) : F .bf16 :=
  FloatOps.truncf .bf16 bitsLt_bf16_f32
    (FloatOps.extf .f32 bitsLt_bf16_f32
      (FloatOps.truncf .bf16 bitsLt_bf16_f32
        (FloatOps.addf
          (FloatOps.mulf (FloatOps.sitofp .f32 (x2 (ix2 b n))) (x3 (ix2 (⟨b.val / 8, by omega⟩ : Fin 10) n)))
          (x4 (ix2 0 n)))))

/-- What one store of scales writes: the code times its group's scale, plus the offset, rounded, in both halves of a word. -/
theorem pay7_apply (v3 : Vec F S8x384 .i8) (v5 v8 : Vec F S1x384 .f32) (j0 : Fin 8) (j1 : Fin 2) (j2 : Fin 384) :
    k0_pay7 v3 v5 v8 (ix3 j0 j1 j2) = FloatOps.truncf .bf16 bitsLt_bf16_f32
    (FloatOps.extf .f32 bitsLt_bf16_f32
      (FloatOps.truncf .bf16 bitsLt_bf16_f32
        (FloatOps.addf
          (FloatOps.mulf (FloatOps.sitofp .f32 (v3 (ix2 j0 j2))) (v5 (ix2 0 j2)))
          (v8 (ix2 0 j2))))) := by
  unfold k0_pay7
  pointwise
  split_ifs <;> rfl

section Am
variable (arg3 : Memref sig .tc .vmem S80x384 .i8) (harg3 : arg3.IsWhole) (arg4 : Memref sig .tc .vmem S10x384 .f32) (harg4 : arg4.IsWhole)
    (arg5 : Memref sig .tc .vmem S1x384 .f32) (harg5 : arg5.IsWhole)
    (x2 : Vec F S80x384 .i8) (x3 : Vec F S10x384 .f32) (x4 : Vec F S1x384 .f32)

/-- Every store of scales writes the blocks' scales. -/
theorem am_agree : ∀ (n : ℕ) (h : n ≤ 10), ∀ p ∈ amPieces arg3 harg3 arg4 harg4 arg5 harg5 x2 x3 x4 n h,
    ∀ x : p.1.shape.Idx, p.2 x = (fun y : S80x2x384.Idx => amVal x2 x3 x4 (y 0) (y 2)) (p.1.emb x)
  | 0, _, p, hp => by simp [amPieces] at hp
  | n + 1, h, p, hp => by
    rcases List.mem_cons.mp hp with rfl | hp
    · intro (x : S8x2x384.Idx)
      show k0_pay7 _ _ _ x = amVal x2 x3 x4
        ((Rect.unit (s := S80x2x384) ![8 * n, 0, 0] S8x2x384.size (inbAm n h)).toLoadRect.idx x 0)
        ((Rect.unit (s := S80x2x384) ![8 * n, 0, 0] S8x2x384.size (inbAm n h)).toLoadRect.idx x 2)
      obtain ⟨a, b, d, rfl⟩ : ∃ a b c, x = ix3 a b c := ⟨x 0, x 1, x 2, by idx_vars x⟩
      rw [pay7_apply]
      simp only [View.readAt_eq_ld, harg3.read_unread, harg4.read_unread, harg5.read_unread]
      unfold amVal
      pointwise
      have e : (8 * n + a.val) / 8 = n := by omega
      simp only [e]
    · exact am_agree n (Nat.le_of_succ_le h) p hp

/-- The first `n` stores of scales cover the first `8 n` blocks. -/
theorem am_cover (y : S80x2x384.Idx) : ∀ (n : ℕ) (h : n ≤ 10), (y 0).val < 8 * n →
    ∃ p ∈ amPieces arg3 harg3 arg4 harg4 arg5 harg5 x2 x3 x4 n h, y ∈ p.1.set
  | 0, _, hy => by omega
  | n + 1, h, hy => by
    by_cases hn : (y 0).val < 8 * n
    · obtain ⟨p, hp, hm⟩ := am_cover y n (Nat.le_of_succ_le h) hn
      exact ⟨p, List.mem_cons_of_mem _ hp, hm⟩
    · refine ⟨_, List.mem_cons_self, ?_⟩
      show y ∈ (Rect.unit (s := S80x2x384) ![8 * n, 0, 0] S8x2x384.size (inbAm n h)).set
      rw [Rect.mem_set_unit]
      have h1 : (y 1).val < 2 := (y 1).isLt
      have h2 : (y 2).val < 384 := (y 2).isLt
      intro a
      match a with
      | ⟨0, _⟩ => show 8 * n ≤ (y 0).val ∧ (y 0).val < 8 * n + 8; omega
      | ⟨1, _⟩ => show 0 ≤ (y 1).val ∧ (y 1).val < 0 + 2; omega
      | ⟨2, _⟩ => show 0 ≤ (y 2).val ∧ (y 2).val < 0 + 384; omega

/-- Once the ten stores are made, the scratch of scales holds every block's scale, twice. -/
theorem am_canon (y : S80x2x384.Idx) :
    View.canon (amPieces arg3 harg3 arg4 harg4 arg5 harg5 x2 x3 x4 10 (Nat.le_refl _)) y = amVal x2 x3 x4 (y 0) (y 2) :=
  View.canon_apply_of_pieces (fun y : S80x2x384.Idx => amVal x2 x3 x4 (y 0) (y 2)) _
    (am_agree arg3 harg3 arg4 harg4 arg5 harg5 x2 x3 x4 10 (Nat.le_refl _)) y
    (am_cover arg3 harg3 arg4 harg4 arg5 harg5 x2 x3 x4 y 10 (Nat.le_refl _) (y 0).isLt)

end Am

/-- The code of a row: the low four bits of its byte at an even row, the high four at an odd row. -/
def code (p : BitVec 8) (par : ℕ) : BitVec 16 :=
  if par = 0 then (p &&& 15#8).setWidth 16 else (p >>> 4).setWidth 16

/-- The low half of a word of two codes is its byte's low four bits. -/
theorem code_even : ∀ p : BitVec 8, BitVec.extractLsb' (16 * 0) 16
    (IntOp.ori (IntOp.andi (BitVec.setWidth 32 p) 15#32)
      (IntOp.shli ArithUnit.vector (IntOp.andi (BitVec.setWidth 32 p) 240#32) 12#32)) = code p 0 := by decide +kernel

/-- The high half of a word of two codes is its byte's high four bits. -/
theorem code_odd : ∀ p : BitVec 8, BitVec.extractLsb' (16 * 1) 16
    (IntOp.ori (IntOp.andi (BitVec.setWidth 32 p) 15#32)
      (IntOp.shli ArithUnit.vector (IntOp.andi (BitVec.setWidth 32 p) 240#32) 12#32)) = code p 1 := by decide +kernel

/-- Row `j0` of a block's unpacked codes is the code its byte holds for a row of that parity. -/
theorem words_apply (wp : Vec F S32x384 .i8) (j0 : Fin 64) (j1 : Fin 384) :
    words wp (ix2 j0 j1) = code (wp (ix2 (⟨j0.val / 2, by omega⟩ : Fin 32) j1)) (j0.val % 2) := by
  unfold words
  rw [bitcast_32_16]
  pointwise
  have e : bitcasts_S32x384_w32_S64x384_w16.srcIdx (ix2 j0 j1) (j0.val / 2) (fun a ha => by
        have := bitcasts_S32x384_w32_S64x384_w16.pos_lt (ix2 j0 j1) 0 (by decide) a ha
        have h : S64x384.row (ix2 j0 j1) = j0.val := rfl
        rw [h] at this; omega) = ix2 (⟨j0.val / 2, by omega⟩ : Fin 32) j1 := by
    funext a; apply Fin.ext
    match a with
    | ⟨0, _⟩ => rfl
    | ⟨1, _⟩ => rfl
  rw [e]
  generalize wp _ = p
  rcases Nat.mod_two_eq_zero_or_one j0.val with h | h <;> rw [h]
  · exact code_even p
  · exact code_odd p

/-- The sixteen-entry table looked up by four bits. -/
def nf4 (b0 b1 b2 b3 : BitVec 1) : F .bf16 :=
  Scalar.select b3
    (Scalar.select b2
      (Scalar.select b1 (Scalar.select b0 (FloatOps.ofBits .bf16 0x3F80#16) (FloatOps.ofBits .bf16 0x3F39#16))
        (Scalar.select b0 (FloatOps.ofBits .bf16 0x3F10#16) (FloatOps.ofBits .bf16 0x3EE2#16)))
      (Scalar.select b1 (Scalar.select b0 (FloatOps.ofBits .bf16 0x3EAD#16) (FloatOps.ofBits .bf16 0x3E7C#16))
        (Scalar.select b0 (FloatOps.ofBits .bf16 0x3E25#16) (FloatOps.ofBits .bf16 0x3DA3#16))))
    (Scalar.select b2
      (Scalar.select b1 (Scalar.select b0 (FloatOps.ofBits .bf16 0x0000#16) (FloatOps.ofBits .bf16 0xBDBA#16))
        (Scalar.select b0 (FloatOps.ofBits .bf16 0xBE3D#16) (FloatOps.ofBits .bf16 0xBE92#16)))
      (Scalar.select b1 (Scalar.select b0 (FloatOps.ofBits .bf16 0xBECA#16) (FloatOps.ofBits .bf16 0xBF06#16))
        (Scalar.select b0 (FloatOps.ofBits .bf16 0xBF32#16) (FloatOps.ofBits .bf16 0xBF80#16))))

/-- Whether a bit of the mask `k` is set in a code. -/
def has (c k : BitVec 16) : BitVec 1 := IntOp.cmpi .ne (IntOp.andi c k) 0#16

/-- The table's value at the code a byte holds for a row of the given parity. -/
def deq (p : BitVec 8) (par : ℕ) : F .bf16 :=
  nf4 (has (code p par) 1#16) (has (code p par) 2#16) (has (code p par) 4#16) (has (code p par) 8#16)

/-- One dequantized weight of a block: the table's value at its code, times the block's scale. -/
theorem blkW_apply (wp : Vec F S32x384 .i8) (am : Vec F S1x2x384 .bf16) (j0 : Fin 64) (j1 : Fin 384) :
    blkW wp am (ix2 j0 j1)
      = FloatOps.mulf (deq (wp (ix2 (⟨j0.val / 2, by omega⟩ : Fin 32) j1)) (j0.val % 2)) (am (ix3 0 0 j1)) := by
  unfold blkW lut lev bit scaleRow
  pointwise
  simp only [words_apply]
  rfl

/-- The dequantized weight at row `k` and column `n`: the table's value at its code, times its block's scale. -/
def wVal (x1 : Vec F S2560x384 .i8) (x2 : Vec F S80x384 .i8) (x3 : Vec F S10x384 .f32) (x4 : Vec F S1x384 .f32)
    (k : Fin 5120) (n : Fin 384) : F .bf16 :=
  FloatOps.mulf (deq (x1 (ix2 (⟨k.val / 2, by omega⟩ : Fin 2560) n)) (k.val % 2))
    (amVal x2 x3 x4 ⟨k.val / 64, by omega⟩ n)

section W
variable (arg2 : Memref sig .tc .vmem S2560x384 .i8) (harg2 : arg2.IsWhole) (arg10 : Memref sig .tc .vmem S80x2x384 .bf16)
    (x1 : Vec F S2560x384 .i8) (x2 : Vec F S80x384 .i8) (x3 : Vec F S10x384 .f32) (x4 : Vec F S1x384 .f32)
    (am : List (View.Piece (Elt F) S80x2x384 .bf16))

/-- Every store of weights writes the dequantized weights. -/
theorem w_agree (ham : ∀ y : S80x2x384.Idx, View.canon am y = amVal x2 x3 x4 (y 0) (y 2)) :
    ∀ (n : ℕ) (h : n ≤ 80), ∀ p ∈ wPieces arg2 harg2 arg10 x1 am n h,
      ∀ x : p.1.shape.Idx, p.2 x = (fun y : S5120x384.Idx => wVal x1 x2 x3 x4 (y 0) (y 1)) (p.1.emb x)
  | 0, _, p, hp => by simp [wPieces] at hp
  | n + 1, h, p, hp => by
    rcases List.mem_cons.mp hp with rfl | hp
    · intro (x : S64x384.Idx)
      show blkW _ _ x = wVal x1 x2 x3 x4
        ((Rect.unit (s := S5120x384) ![64 * n, 0] S64x384.size (inbW n h)).toLoadRect.idx x 0)
        ((Rect.unit (s := S5120x384) ![64 * n, 0] S64x384.size (inbW n h)).toLoadRect.idx x 1)
      obtain ⟨a, d, rfl⟩ : ∃ a d, x = ix2 a d := ⟨x 0, x 1, by idx_vars x⟩
      rw [blkW_apply]
      simp only [View.readAt_eq_ld, harg2.read_unread, View.readCov_eq_canon', ham]
      unfold wVal
      pointwise
      have e1 : (64 * n + a.val) / 2 = 32 * n + a.val / 2 := by omega
      have e2 : (64 * n + a.val) % 2 = a.val % 2 := by omega
      have e3 : (64 * n + a.val) / 64 = n := by omega
      simp only [e1, e2, e3]
    · exact w_agree ham n (Nat.le_of_succ_le h) p hp

/-- The first `n` stores of weights cover the first `64 n` rows. -/
theorem w_cover (y : S5120x384.Idx) : ∀ (n : ℕ) (h : n ≤ 80), (y 0).val < 64 * n →
    ∃ p ∈ wPieces arg2 harg2 arg10 x1 am n h, y ∈ p.1.set
  | 0, _, hy => by omega
  | n + 1, h, hy => by
    by_cases hn : (y 0).val < 64 * n
    · obtain ⟨p, hp, hm⟩ := w_cover y n (Nat.le_of_succ_le h) hn
      exact ⟨p, List.mem_cons_of_mem _ hp, hm⟩
    · refine ⟨_, List.mem_cons_self, ?_⟩
      show y ∈ (Rect.unit (s := S5120x384) ![64 * n, 0] S64x384.size (inbW n h)).set
      rw [Rect.mem_set_unit]
      have h1 : (y 1).val < 384 := (y 1).isLt
      intro a
      match a with
      | ⟨0, _⟩ => show 64 * n ≤ (y 0).val ∧ (y 0).val < 64 * n + 64; omega
      | ⟨1, _⟩ => show 0 ≤ (y 1).val ∧ (y 1).val < 0 + 384; omega

/-- Once the eighty stores are made, the scratch of weights holds every dequantized weight. -/
theorem w_canon (ham : ∀ y : S80x2x384.Idx, View.canon am y = amVal x2 x3 x4 (y 0) (y 2)) (y : S5120x384.Idx) :
    View.canon (wPieces arg2 harg2 arg10 x1 am 80 (Nat.le_refl _)) y = wVal x1 x2 x3 x4 (y 0) (y 1) :=
  View.canon_apply_of_pieces (fun y : S5120x384.Idx => wVal x1 x2 x3 x4 (y 0) (y 1)) _
    (w_agree arg2 harg2 arg10 x1 x2 x3 x4 am ham 80 (Nat.le_refl _)) y
    (w_cover arg2 harg2 arg10 x1 am y 80 (Nat.le_refl _) (y 0).isLt)

end W

end Cert.KernelIdeal.Gen.Deq

end
-- ==== Proof.Output.lean ====
module

public import proofs.«01_k».proof.Proof.Weights
public import Idealize.ShloMosaic.Lib.Pointwise
@[expose] public section

set_option maxRecDepth 65536

noncomputable section

namespace Cert.KernelIdeal.Gen.Deq

open Idealize.ShloMosaic Idealize.ShloMosaic.TcCoe Idealize.ShloMosaic.Tactic
open Idealize.SL Idealize.SL.Sem

section Pieces
variable {F : FTy → Type} [FloatOps F]

/-- A chunk of the activations lies inside them. -/
theorem inbX (n : ℕ) (h : n + 1 ≤ 4) : ∀ a, (![512 * n, 0] : Fin 2 → ℕ) a + S512x5120.size a ≤ S2048x5120.size a := by
  intro a; fin_cases a <;> simp <;> omega

/-- A chunk of the low-rank activations lies inside their scratch. -/
theorem inbH (n : ℕ) (h : n + 1 ≤ 4) : ∀ a, (![512 * n, 0] : Fin 2 → ℕ) a + S512x16.size a ≤ S2048x16.size a := by
  intro a; fin_cases a <;> simp <;> omega

/-- A chunk of a result block lies inside it. -/
theorem inbY (n : ℕ) (h : n + 1 ≤ 4) : ∀ a, (![512 * n, 0] : Fin 2 → ℕ) a + S512x384.size a ≤ S2048x384.size a := by
  intro a; fin_cases a <;> simp <;> omega

/-- The first `n` stores into the scratch of low-rank activations, last first: store `g` holds rows `512 g` on. -/
def hPieces (arg1 : Memref sig .tc .vmem S2048x5120 .bf16) (harg1 : arg1.IsWhole) (arg6 : Memref sig .tc .vmem S5120x16 .bf16) (harg6 : arg6.IsWhole)
    (x0 : Vec F S2048x5120 .bf16) (x5 : Vec F S5120x16 .bf16) :
    (n : ℕ) → n ≤ 4 → List (View.Piece (Elt F) S2048x16 .bf16)
  | 0, _ => []
  | n + 1, h =>
    ⟨Rect.unit (s := S2048x16) ![512 * n, 0] S512x16.size (inbH n h),
      k0_pay2
        (View.readAt (Elt F) arg1.view (Rect.unit (s := S2048x5120) ![512 * n, 0] S512x5120.size (inbX n h)).toLoadRect (harg1.unread x0))
        (View.readAt (Elt F) arg6.view (Rect.unit (s := S5120x16) ![0, 0] S5120x16.size inb_S5120x16_S5120x16_0_0).toLoadRect (harg6.unread x5))⟩ ::
      hPieces arg1 harg1 arg6 harg6 x0 x5 n (Nat.le_of_succ_le h)

/-- The first `n` stores into a block of the result, last first, over the weights `w` and the low-rank activations'
    rows `hl`: store `g` holds rows `512 g` on. -/
def yPieces (arg1 : Memref sig .tc .vmem S2048x5120 .bf16) (harg1 : arg1.IsWhole) (arg7 : Memref sig .tc .vmem S16x384 .bf16) (harg7 : arg7.IsWhole)
    (x0 : Vec F S2048x5120 .bf16) (x6 : Vec F S16x384 .bf16) (w : Vec F S5120x384 .bf16)
    (hl : (n : ℕ) → n + 1 ≤ 4 → Vec F S512x16 .bf16) :
    (n : ℕ) → n ≤ 4 → List (View.Piece (Elt F) S2048x384 .bf16)
  | 0, _ => []
  | n + 1, h =>
    ⟨Rect.unit (s := S2048x384) ![512 * n, 0] S512x384.size (inbY n h),
      k0_pay1117
        (View.readAt (Elt F) arg1.view (Rect.unit (s := S2048x5120) ![512 * n, 0] S512x5120.size (inbX n h)).toLoadRect (harg1.unread x0))
        w (hl n h)
        (View.readAt (Elt F) arg7.view (Rect.unit (s := S16x384) ![0, 0] S16x384.size inb_S16x384_S16x384_0_0).toLoadRect (harg7.unread x6))⟩ ::
      yPieces arg1 harg1 arg7 harg7 x0 x6 w hl n (Nat.le_of_succ_le h)

end Pieces

section Bridge
variable {F : FTy → Type} [FloatOps F]
variable (c : Dev nD) (i : grid0.Coords) (arg1 : Memref sig .tc .vmem S2048x5120 .bf16) (harg1 : arg1.IsWhole) (arg2 : Memref sig .tc .vmem S2560x384 .i8) (harg2 : arg2.IsWhole) (arg3 : Memref sig .tc .vmem S80x384 .i8) (harg3 : arg3.IsWhole) (arg4 : Memref sig .tc .vmem S10x384 .f32) (harg4 : arg4.IsWhole) (arg5 : Memref sig .tc .vmem S1x384 .f32) (harg5 : arg5.IsWhole) (arg6 : Memref sig .tc .vmem S5120x16 .bf16) (harg6 : arg6.IsWhole) (arg7 : Memref sig .tc .vmem S16x384 .bf16) (harg7 : arg7.IsWhole) (arg8 : Memref sig .tc .vmem S2048x384 .bf16) (harg8 : arg8.IsWhole) (arg9 : Memref sig .tc .vmem S5120x384 .bf16) (harg9 : arg9.IsWhole) (arg10 : Memref sig .tc .vmem S80x2x384 .bf16) (harg10 : arg10.IsWhole) (arg11 : Memref sig .tc .vmem S2048x16 .bf16) (harg11 : arg11.IsWhole)
    (x0 : Vec F S2048x5120 .bf16) (x1 : Vec F S2560x384 .i8) (x2 : Vec F S80x384 .i8) (x3 : Vec F S10x384 .f32) (x4 : Vec F S1x384 .f32) (x5 : Vec F S5120x16 .bf16) (x6 : Vec F S16x384 .bf16)

/-- The weights a point multiplies by: the scratch of weights read whole after its eighty stores. -/
def wRead : Vec F S5120x384 .bf16 :=
  arg9.view.readCov (wPieces arg2 harg2 arg10 x1 (amPieces arg3 harg3 arg4 harg4 arg5 harg5 x2 x3 x4 10 (Nat.le_refl _)) 80 (Nat.le_refl _))
    (Rect.unit (s := S5120x384) ![0, 0] S5120x384.size inb_S5120x384_S5120x384_0_0).toLoadRect

/-- The weights' read where the first grid point runs. -/
theorem wRead_A : kernelRun0_A.sl.v5435 c arg2 harg2 arg3 harg3 arg4 harg4 arg5 harg5 arg9 arg10 x1 x2 x3 x4
    = wRead arg2 harg2 arg3 harg3 arg4 harg4 arg5 harg5 arg9 arg10 x1 x2 x3 x4 := by
  unfold kernelRun0_A.sl.v5435 wRead
  rw [w_A, am_A]

/-- The weights' read where a later grid point runs. -/
theorem wRead_B : kernelRun0_B.sl.v5435 c arg2 harg2 arg3 harg3 arg4 harg4 arg5 harg5 arg9 arg10 x1 x2 x3 x4
    = wRead arg2 harg2 arg3 harg3 arg4 harg4 arg5 harg5 arg9 arg10 x1 x2 x3 x4 := by
  unfold kernelRun0_B.sl.v5435 wRead
  rw [w_B, am_B]

/-- The low-rank activations' stores of the first grid point. -/
theorem h_A : kernelRun0_A.sl.HS2_4 c arg1 harg1 arg6 harg6 x0 x5 = hPieces arg1 harg1 arg6 harg6 x0 x5 4 (Nat.le_refl _) := rfl

set_option maxHeartbeats 1000000 in
/-- What the first grid point leaves in the scratch of low-rank activations. -/
theorem sout_A (hc0 : cond0_0 i) : sout0_A_2 c i arg1 harg1 arg2 harg2 arg3 harg3 arg4 harg4 arg5 harg5 arg6 harg6 arg7 harg7 arg8 harg8 arg9 harg9 arg10 harg10 arg11 harg11 hc0 x0 x1 x2 x3 x4 x5 x6
    = View.canon (hPieces arg1 harg1 arg6 harg6 x0 x5 4 (Nat.le_refl _)) := by
  unfold sout0_A_2
  rw [View.read_writes_junk_eq_canon]
  unfold kernelRun0_A
  dsimp only
  rw [h_A]

set_option maxHeartbeats 1000000 in
/-- What the first grid point leaves in its block of the result. -/
theorem out_A (hc0 : cond0_0 i) : out0_A_7 c i arg1 harg1 arg2 harg2 arg3 harg3 arg4 harg4 arg5 harg5 arg6 harg6 arg7 harg7 arg8 harg8 arg9 harg9 arg10 harg10 arg11 harg11 hc0 x0 x1 x2 x3 x4 x5 x6
    = View.canon (yPieces arg1 harg1 arg7 harg7 x0 x6 (wRead arg2 harg2 arg3 harg3 arg4 harg4 arg5 harg5 arg9 arg10 x1 x2 x3 x4)
        (fun n h => arg11.view.readCov (hPieces arg1 harg1 arg6 harg6 x0 x5 4 (Nat.le_refl _)) (Rect.unit (s := S2048x16) ![512 * n, 0] S512x16.size (inbH n h)).toLoadRect)
        4 (Nat.le_refl _)) := by
  unfold out0_A_7
  rw [View.read_writes_junk_eq_canon]
  unfold kernelRun0_A
  dsimp only
  unfold kernelRun0_A.sl.r_384 kernelRun0_A.sl.v5473 kernelRun0_A.sl.v5461 kernelRun0_A.sl.v5449 kernelRun0_A.sl.v5437
  simp only [wRead_A, h_A]
  rfl

set_option maxHeartbeats 1000000 in
/-- What a later grid point leaves in its block of the result. -/
theorem out_B (hc0 : ¬ cond0_0 i) (xs2 : Vec F S2048x16 .bf16) : out0_B_7 c i arg1 harg1 arg2 harg2 arg3 harg3 arg4 harg4 arg5 harg5 arg6 harg6 arg7 harg7 arg8 harg8 arg9 harg9 arg10 harg10 arg11 harg11 hc0 x0 x1 x2 x3 x4 x5 x6 xs2
    = View.canon (yPieces arg1 harg1 arg7 harg7 x0 x6 (wRead arg2 harg2 arg3 harg3 arg4 harg4 arg5 harg5 arg9 arg10 x1 x2 x3 x4)
        (fun n h => View.readAt (Elt F) arg11.view (Rect.unit (s := S2048x16) ![512 * n, 0] S512x16.size (inbH n h)).toLoadRect (harg11.unread xs2))
        4 (Nat.le_refl _)) := by
  unfold out0_B_7
  rw [View.read_writes_junk_eq_canon]
  unfold kernelRun0_B
  dsimp only
  unfold kernelRun0_B.sl.r_383 kernelRun0_B.sl.r_384
  simp only [wRead_B]
  rfl

end Bridge

end Cert.KernelIdeal.Gen.Deq

end
-- ==== Proof.Values.lean ====
module

public import proofs.«01_k».proof.Proof.Output
public import Idealize.ShloMosaic.Lib.Pointwise
@[expose] public section

set_option maxRecDepth 65536

noncomputable section

namespace Cert.KernelIdeal.Gen.Deq

open Idealize.ShloMosaic Idealize.ShloMosaic.TcCoe Idealize.ShloMosaic.Tactic
open Idealize.SL Idealize.SL.Sem

/-- The factor the low-rank part is scaled by. -/
abbrev two : EReal := Ideal.ofBits FTy.f32 0x40000000#32

/-- A chunk of the low-rank activations is the product of the activations' chunk and the first factor. -/
theorem pay2_apply (x : Vec Ideal S512x5120 .bf16) (la : Vec Ideal S5120x16 .bf16) (r : Fin 512) (j : Fin 16) :
    k0_pay2 x la (ix2 r j) = ∑ k : Fin 5120, x (ix2 r k) * la (ix2 k j) := by
  unfold k0_pay2
  pointwise

/-- A chunk of the result is the product with the weights plus the scaled product with the second low-rank factor. -/
theorem pay1117_apply (x : Vec Ideal S512x5120 .bf16) (w : Vec Ideal S5120x384 .bf16) (h : Vec Ideal S512x16 .bf16) (lb : Vec Ideal S16x384 .bf16)
    (r : Fin 512) (n : Fin 384) :
    k0_pay1117 x w h lb (ix2 r n) = (∑ k : Fin 5120, x (ix2 r k) * w (ix2 k n)) + two * ∑ j : Fin 16, h (ix2 r j) * lb (ix2 j n) := by
  unfold k0_pay1117
  pointwise

/-- The low-rank activation of row `r`. -/
def hVal (x0 : Vec Ideal S2048x5120 .bf16) (x5 : Vec Ideal S5120x16 .bf16) (r : Fin 2048) (j : Fin 16) : EReal :=
  ∑ k : Fin 5120, x0 (ix2 r k) * x5 (ix2 k j)

/-- The result's element at row `r` and column `n` of a block, over weights `w` and low-rank activations `h`. -/
def yVal (x0 : Vec Ideal S2048x5120 .bf16) (w : Fin 5120 → Fin 384 → EReal) (h : Fin 2048 → Fin 16 → EReal) (x6 : Vec Ideal S16x384 .bf16)
    (r : Fin 2048) (n : Fin 384) : EReal :=
  (∑ k : Fin 5120, x0 (ix2 r k) * w k n) + two * ∑ j : Fin 16, h r j * x6 (ix2 j n)

section H
variable (arg1 : Memref sig .tc .vmem S2048x5120 .bf16) (harg1 : arg1.IsWhole) (arg6 : Memref sig .tc .vmem S5120x16 .bf16) (harg6 : arg6.IsWhole)
    (x0 : Vec Ideal S2048x5120 .bf16) (x5 : Vec Ideal S5120x16 .bf16)

/-- Every store into the scratch of low-rank activations writes the activations' values. -/
theorem h_agree : ∀ (n : ℕ) (h : n ≤ 4), ∀ p ∈ hPieces arg1 harg1 arg6 harg6 x0 x5 n h,
    ∀ x : p.1.shape.Idx, p.2 x = (fun y : S2048x16.Idx => hVal x0 x5 (y 0) (y 1)) (p.1.emb x)
  | 0, _, p, hp => by simp [hPieces] at hp
  | n + 1, h, p, hp => by
    rcases List.mem_cons.mp hp with rfl | hp
    · intro (x : S512x16.Idx)
      show k0_pay2 (F := Ideal) _ _ x = hVal x0 x5
        ((Rect.unit (s := S2048x16) ![512 * n, 0] S512x16.size (inbH n h)).toLoadRect.idx x 0)
        ((Rect.unit (s := S2048x16) ![512 * n, 0] S512x16.size (inbH n h)).toLoadRect.idx x 1)
      obtain ⟨a, d, rfl⟩ : ∃ a d, x = ix2 a d := ⟨x 0, x 1, by idx_vars x⟩
      rw [pay2_apply]
      simp only [View.readAt_eq_ld, harg1.read_unread, harg6.read_unread]
      unfold hVal
      pointwise
    · exact h_agree n (Nat.le_of_succ_le h) p hp

/-- The first `n` stores into the scratch of low-rank activations cover its first `512 n` rows. -/
theorem h_cover (y : S2048x16.Idx) : ∀ (n : ℕ) (h : n ≤ 4), (y 0).val < 512 * n →
    ∃ p ∈ hPieces arg1 harg1 arg6 harg6 x0 x5 n h, y ∈ p.1.set
  | 0, _, hy => by omega
  | n + 1, h, hy => by
    by_cases hn : (y 0).val < 512 * n
    · obtain ⟨p, hp, hm⟩ := h_cover y n (Nat.le_of_succ_le h) hn
      exact ⟨p, List.mem_cons_of_mem _ hp, hm⟩
    · refine ⟨_, List.mem_cons_self, ?_⟩
      show y ∈ (Rect.unit (s := S2048x16) ![512 * n, 0] S512x16.size (inbH n h)).set
      rw [Rect.mem_set_unit]
      have h1 : (y 1).val < 16 := (y 1).isLt
      intro a
      match a with
      | ⟨0, _⟩ => show 512 * n ≤ (y 0).val ∧ (y 0).val < 512 * n + 512; omega
      | ⟨1, _⟩ => show 0 ≤ (y 1).val ∧ (y 1).val < 0 + 16; omega

/-- Once the four stores are made, the scratch holds every low-rank activation. -/
theorem h_canon (y : S2048x16.Idx) :
    View.canon (hPieces arg1 harg1 arg6 harg6 x0 x5 4 (Nat.le_refl _)) y = hVal x0 x5 (y 0) (y 1) :=
  View.canon_apply_of_pieces (fun y : S2048x16.Idx => hVal x0 x5 (y 0) (y 1)) _
    (h_agree arg1 harg1 arg6 harg6 x0 x5 4 (Nat.le_refl _)) y
    (h_cover arg1 harg1 arg6 harg6 x0 x5 y 4 (Nat.le_refl _) (y 0).isLt)

end H

section Y
variable (arg1 : Memref sig .tc .vmem S2048x5120 .bf16) (harg1 : arg1.IsWhole) (arg7 : Memref sig .tc .vmem S16x384 .bf16) (harg7 : arg7.IsWhole)
    (x0 : Vec Ideal S2048x5120 .bf16) (x6 : Vec Ideal S16x384 .bf16) (w : Vec Ideal S5120x384 .bf16)
    (hl : (n : ℕ) → n + 1 ≤ 4 → Vec Ideal S512x16 .bf16) (H : Fin 2048 → Fin 16 → EReal)

/-- Every store into a block of the result writes the result's values. -/
theorem y_agree (hH : ∀ (n : ℕ) (h : n + 1 ≤ 4) (a : Fin 512) (j : Fin 16), hl n h (ix2 a j) = H ⟨512 * n + a.val, by omega⟩ j) :
    ∀ (n : ℕ) (h : n ≤ 4), ∀ p ∈ yPieces arg1 harg1 arg7 harg7 x0 x6 w hl n h,
    ∀ x : p.1.shape.Idx, p.2 x = (fun y : S2048x384.Idx => yVal x0 (fun k n => w (ix2 k n)) H x6 (y 0) (y 1)) (p.1.emb x)
  | 0, _, p, hp => by simp [yPieces] at hp
  | n + 1, h, p, hp => by
    rcases List.mem_cons.mp hp with rfl | hp
    · intro (x : S512x384.Idx)
      show k0_pay1117 (F := Ideal) _ _ _ _ x = yVal x0 (fun k n => w (ix2 k n)) H x6
        ((Rect.unit (s := S2048x384) ![512 * n, 0] S512x384.size (inbY n h)).toLoadRect.idx x 0)
        ((Rect.unit (s := S2048x384) ![512 * n, 0] S512x384.size (inbY n h)).toLoadRect.idx x 1)
      obtain ⟨a, d, rfl⟩ : ∃ a d, x = ix2 a d := ⟨x 0, x 1, by idx_vars x⟩
      rw [pay1117_apply]
      simp only [View.readAt_eq_ld, harg1.read_unread, harg7.read_unread, hH]
      unfold yVal
      pointwise
    · exact y_agree hH n (Nat.le_of_succ_le h) p hp

/-- The first `n` stores into a block of the result cover its first `512 n` rows. -/
theorem y_cover (y : S2048x384.Idx) : ∀ (n : ℕ) (h : n ≤ 4), (y 0).val < 512 * n →
    ∃ p ∈ yPieces arg1 harg1 arg7 harg7 x0 x6 w hl n h, y ∈ p.1.set
  | 0, _, hy => by omega
  | n + 1, h, hy => by
    by_cases hn : (y 0).val < 512 * n
    · obtain ⟨p, hp, hm⟩ := y_cover y n (Nat.le_of_succ_le h) hn
      exact ⟨p, List.mem_cons_of_mem _ hp, hm⟩
    · refine ⟨_, List.mem_cons_self, ?_⟩
      show y ∈ (Rect.unit (s := S2048x384) ![512 * n, 0] S512x384.size (inbY n h)).set
      rw [Rect.mem_set_unit]
      have h1 : (y 1).val < 384 := (y 1).isLt
      intro a
      match a with
      | ⟨0, _⟩ => show 512 * n ≤ (y 0).val ∧ (y 0).val < 512 * n + 512; omega
      | ⟨1, _⟩ => show 0 ≤ (y 1).val ∧ (y 1).val < 0 + 384; omega

/-- Once the four stores are made, the block holds the result's values. -/
theorem y_canon (hH : ∀ (n : ℕ) (h : n + 1 ≤ 4) (a : Fin 512) (j : Fin 16), hl n h (ix2 a j) = H ⟨512 * n + a.val, by omega⟩ j)
    (y : S2048x384.Idx) :
    View.canon (yPieces arg1 harg1 arg7 harg7 x0 x6 w hl 4 (Nat.le_refl _)) y = yVal x0 (fun k n => w (ix2 k n)) H x6 (y 0) (y 1) :=
  View.canon_apply_of_pieces (fun y : S2048x384.Idx => yVal x0 (fun k n => w (ix2 k n)) H x6 (y 0) (y 1)) _
    (y_agree arg1 harg1 arg7 harg7 x0 x6 w hl H hH 4 (Nat.le_refl _)) y
    (y_cover arg1 harg1 arg7 harg7 x0 x6 w hl y 4 (Nat.le_refl _) (y 0).isLt)

end Y

section Out
variable (c : Dev nD) (i : grid0.Coords) (arg1 : Memref sig .tc .vmem S2048x5120 .bf16) (harg1 : arg1.IsWhole) (arg2 : Memref sig .tc .vmem S2560x384 .i8) (harg2 : arg2.IsWhole) (arg3 : Memref sig .tc .vmem S80x384 .i8) (harg3 : arg3.IsWhole) (arg4 : Memref sig .tc .vmem S10x384 .f32) (harg4 : arg4.IsWhole) (arg5 : Memref sig .tc .vmem S1x384 .f32) (harg5 : arg5.IsWhole) (arg6 : Memref sig .tc .vmem S5120x16 .bf16) (harg6 : arg6.IsWhole) (arg7 : Memref sig .tc .vmem S16x384 .bf16) (harg7 : arg7.IsWhole) (arg8 : Memref sig .tc .vmem S2048x384 .bf16) (harg8 : arg8.IsWhole) (arg9 : Memref sig .tc .vmem S5120x384 .bf16) (harg9 : arg9.IsWhole) (arg10 : Memref sig .tc .vmem S80x2x384 .bf16) (harg10 : arg10.IsWhole) (arg11 : Memref sig .tc .vmem S2048x16 .bf16) (harg11 : arg11.IsWhole)
    (x0 : Vec Ideal S2048x5120 .bf16) (x1 : Vec Ideal S2560x384 .i8) (x2 : Vec Ideal S80x384 .i8) (x3 : Vec Ideal S10x384 .f32) (x4 : Vec Ideal S1x384 .f32) (x5 : Vec Ideal S5120x16 .bf16) (x6 : Vec Ideal S16x384 .bf16)

/-- The weights a point multiplies by are the dequantized weights of its blocks. -/
theorem wRead_apply (k : Fin 5120) (n : Fin 384) :
    wRead arg2 harg2 arg3 harg3 arg4 harg4 arg5 harg5 arg9 arg10 x1 x2 x3 x4 (ix2 k n) = wVal x1 x2 x3 x4 k n := by
  unfold wRead
  rw [View.readCov_eq_canon']
  simp only [w_canon arg2 harg2 arg10 x1 x2 x3 x4 _ (am_canon arg3 harg3 arg4 harg4 arg5 harg5 x2 x3 x4)]
  pointwise

/-- The first grid point leaves the low-rank activations in their scratch. -/
theorem sout_A_apply (hc0 : cond0_0 i) (r : Fin 2048) (j : Fin 16) :
    sout0_A_2 c i arg1 harg1 arg2 harg2 arg3 harg3 arg4 harg4 arg5 harg5 arg6 harg6 arg7 harg7 arg8 harg8 arg9 harg9 arg10 harg10 arg11 harg11 hc0 x0 x1 x2 x3 x4 x5 x6 (ix2 r j)
    = hVal x0 x5 r j := by
  rw [sout_A, h_canon]
  rfl

/-- The first grid point leaves the result's values in its block. -/
theorem out_A_apply (hc0 : cond0_0 i) (r : Fin 2048) (n : Fin 384) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 (ix2 r n)
    = yVal x0 (wVal x1 x2 x3 x4) (hVal x0 x5) x6 r n := by
  rw [out_A, y_canon _ _ _ _ _ _ _ _ (hVal x0 x5)]
  · simp only [wRead_apply]
    rfl
  · intro g h a j
    rw [View.readCov_eq_canon']
    simp only [h_canon]
    pointwise

/-- A later grid point leaves the result's values in its block, over the low-rank activations it found. -/
theorem out_B_apply (hc0 : ¬ cond0_0 i) (xs2 : Vec Ideal S2048x16 .bf16) (r : Fin 2048) (n : Fin 384) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xs2 (ix2 r n)
    = yVal x0 (wVal x1 x2 x3 x4) (fun r j => xs2 (ix2 r j)) x6 r n := by
  rw [out_B, y_canon _ _ _ _ _ _ _ _ (fun r j => xs2 (ix2 r j))]
  · simp only [wRead_apply]
    rfl
  · intro g h a j
    simp only [View.readAt_eq_ld, harg11.read_unread]
    pointwise

end Out

end Cert.KernelIdeal.Gen.Deq

end
-- ==== Proof.Result.lean ====
module

public import proofs.«01_k».proof.Proof.Values
public import proofs.«01_k».proof.Proof.Gen.KernelIdeal.Value
public import Idealize.ShloMosaic.Lib.Pointwise
@[expose] public section

set_option maxRecDepth 65536

noncomputable section

namespace Cert.KernelIdeal.Gen.Deq

open Idealize.ShloMosaic Idealize.ShloMosaic.TcCoe Idealize.ShloMosaic.Tactic
open Idealize.SL Idealize.SL.Sem

variable (m : (ℓ : Loc nD τ sig) → Buf (Elt Ideal) ℓ) (c : Dev nD)

/-- The seven arguments as launched. -/
abbrev a0 : Vec Ideal S8x256x5120 .bf16 := m ((c : Thread nD τ).loc main_arg0)
abbrev a1 : Vec Ideal S2560x3456 .i8 := m ((c : Thread nD τ).loc main_arg1)
abbrev a2 : Vec Ideal S80x3456 .i8 := m ((c : Thread nD τ).loc main_arg2)
abbrev a3 : Vec Ideal S10x3456 .f32 := m ((c : Thread nD τ).loc main_arg3)
abbrev a4 : Vec Ideal S3456 .f32 := m ((c : Thread nD τ).loc main_arg4)
abbrev a5 : Vec Ideal S5120x16 .bf16 := m ((c : Thread nD τ).loc main_arg5)
abbrev a6 : Vec Ideal S16x3456 .bf16 := m ((c : Thread nD τ).loc main_arg6)

/-- Window 0 reads the whole array at every point. -/
theorem idx0 : ∀ t : Fin grid0.N, win0_0.index t = ![0, 0] := by decide +kernel
/-- Window 1 reads the point's own column tile at every point. -/
theorem idx1 : ∀ t : Fin grid0.N, win0_1.index t = ![0, t.val] := by decide +kernel
/-- Window 2 reads the point's own column tile at every point. -/
theorem idx2 : ∀ t : Fin grid0.N, win0_2.index t = ![0, t.val] := by decide +kernel
/-- Window 3 reads the point's own column tile at every point. -/
theorem idx3 : ∀ t : Fin grid0.N, win0_3.index t = ![0, t.val] := by decide +kernel
/-- Window 4 reads the point's own column tile at every point. -/
theorem idx4 : ∀ t : Fin grid0.N, win0_4.index t = ![0, t.val] := by decide +kernel
/-- Window 5 reads the whole array at every point. -/
theorem idx5 : ∀ t : Fin grid0.N, win0_5.index t = ![0, 0] := by decide +kernel
/-- Window 6 reads the point's own column tile at every point. -/
theorem idx6 : ∀ t : Fin grid0.N, win0_6.index t = ![0, t.val] := by decide +kernel

/-- The activations as the grid finds them: the argument's rows in order. -/
theorem V_v0 : V m c main_v0 = shapeCast S2048x5120 (a0 m c) shapeCasts_S8x256x5120_S2048x5120 := by
  unfold V hostOps0
  after_results_simp
  rfl

/-- The offsets as the grid finds them: the argument as one row. -/
theorem V_v1 : V m c main_v1 = shapeCast S1x3456 (a4 m c) shapeCasts_S3456_S1x3456 := by
  unfold V hostOps0
  after_results_simp
  rfl

/-- Column `n` of point `t`'s tile. -/
abbrev col (t : Fin cfg0.N) (n : Fin 384) : Fin 3456 := ⟨384 * t.val + n.val, by
  have h1 := lt_of_lt_of_eq t.isLt (show cfg0.N = 9 from N_0); have h2 := n.isLt; omega⟩

/-- The activations' block is all of them, at every point. -/
theorem blk0 (t : Fin cfg0.N) (r : Fin 2048) (k : Fin 5120) :
    (iblk m c 0 t : Vec Ideal S2048x5120 .bf16) (ix2 r k) = shapeCast S2048x5120 (a0 m c) shapeCasts_S8x256x5120_S2048x5120 (ix2 r k) := by
  show V m c main_v0 (((cfg0.win 0).blk t).view.emb (ix2 r k)) = _
  rw [V_v0]
  congr 1
  have e := idx0 t
  funext a; apply Fin.ext
  match a with
  | ⟨0, _⟩ => show win0_0.index t (0 : Fin 2) * 2048 + 1 * r.val = r.val; rw [e]; simp
  | ⟨1, _⟩ => show win0_0.index t (1 : Fin 2) * 5120 + 1 * k.val = k.val; rw [e]; simp

/-- A point's block of packed codes is its column tile. -/
theorem blk1 (t : Fin cfg0.N) (k : Fin 2560) (n : Fin 384) :
    (iblk m c 1 t : Vec Ideal S2560x384 .i8) (ix2 k n) = a1 m c (ix2 k (col t n)) := by
  show V m c main_arg1 (((cfg0.win 1).blk t).view.emb (ix2 k n)) = _
  rw [V_main_arg1]
  congr 1
  have e := idx1 t
  funext a; apply Fin.ext
  match a with
  | ⟨0, _⟩ => show win0_1.index t (0 : Fin 2) * 2560 + 1 * k.val = k.val; rw [e]; simp
  | ⟨1, _⟩ => show win0_1.index t (1 : Fin 2) * 384 + 1 * n.val = 384 * t.val + n.val; rw [e]; simp; omega

/-- A point's block of scale codes is its column tile. -/
theorem blk2 (t : Fin cfg0.N) (k : Fin 80) (n : Fin 384) :
    (iblk m c 2 t : Vec Ideal S80x384 .i8) (ix2 k n) = a2 m c (ix2 k (col t n)) := by
  show V m c main_arg2 (((cfg0.win 2).blk t).view.emb (ix2 k n)) = _
  rw [V_main_arg2]
  congr 1
  have e := idx2 t
  funext a; apply Fin.ext
  match a with
  | ⟨0, _⟩ => show win0_2.index t (0 : Fin 2) * 80 + 1 * k.val = k.val; rw [e]; simp
  | ⟨1, _⟩ => show win0_2.index t (1 : Fin 2) * 384 + 1 * n.val = 384 * t.val + n.val; rw [e]; simp; omega

/-- A point's block of group scales is its column tile. -/
theorem blk3 (t : Fin cfg0.N) (k : Fin 10) (n : Fin 384) :
    (iblk m c 3 t : Vec Ideal S10x384 .f32) (ix2 k n) = a3 m c (ix2 k (col t n)) := by
  show V m c main_arg3 (((cfg0.win 3).blk t).view.emb (ix2 k n)) = _
  rw [V_main_arg3]
  congr 1
  have e := idx3 t
  funext a; apply Fin.ext
  match a with
  | ⟨0, _⟩ => show win0_3.index t (0 : Fin 2) * 10 + 1 * k.val = k.val; rw [e]; simp
  | ⟨1, _⟩ => show win0_3.index t (1 : Fin 2) * 384 + 1 * n.val = 384 * t.val + n.val; rw [e]; simp; omega

/-- A point's block of offsets is its column tile. -/
theorem blk4 (t : Fin cfg0.N) (n : Fin 384) :
    (iblk m c 4 t : Vec Ideal S1x384 .f32) (ix2 0 n) = a4 m c (ix1 (col t n)) := by
  show V m c main_v1 (((cfg0.win 4).blk t).view.emb (ix2 0 n)) = _
  have h : ((cfg0.win 4).blk t).view.emb (ix2 0 n) = (ix2 0 (col t n) : S1x3456.Idx) := by
    have e := idx4 t
    funext a; apply Fin.ext
    match a with
    | ⟨0, _⟩ => show win0_4.index t (0 : Fin 2) * 1 + 1 * 0 = 0; rw [e]; simp
    | ⟨1, _⟩ => show win0_4.index t (1 : Fin 2) * 384 + 1 * n.val = 384 * t.val + n.val; rw [e]; simp; omega
  rw [V_v1, h]
  pointwise

/-- The first low-rank factor's block is all of it, at every point. -/
theorem blk5 (t : Fin cfg0.N) (k : Fin 5120) (j : Fin 16) :
    (iblk m c 5 t : Vec Ideal S5120x16 .bf16) (ix2 k j) = a5 m c (ix2 k j) := by
  show V m c main_arg5 (((cfg0.win 5).blk t).view.emb (ix2 k j)) = _
  rw [V_main_arg5]
  congr 1
  have e := idx5 t
  funext a; apply Fin.ext
  match a with
  | ⟨0, _⟩ => show win0_5.index t (0 : Fin 2) * 5120 + 1 * k.val = k.val; rw [e]; simp
  | ⟨1, _⟩ => show win0_5.index t (1 : Fin 2) * 16 + 1 * j.val = j.val; rw [e]; simp

/-- A point's block of the second low-rank factor is its column tile. -/
theorem blk6 (t : Fin cfg0.N) (k : Fin 16) (n : Fin 384) :
    (iblk m c 6 t : Vec Ideal S16x384 .bf16) (ix2 k n) = a6 m c (ix2 k (col t n)) := by
  show V m c main_arg6 (((cfg0.win 6).blk t).view.emb (ix2 k n)) = _
  rw [V_main_arg6]
  congr 1
  have e := idx6 t
  funext a; apply Fin.ext
  match a with
  | ⟨0, _⟩ => show win0_6.index t (0 : Fin 2) * 16 + 1 * k.val = k.val; rw [e]; simp
  | ⟨1, _⟩ => show win0_6.index t (1 : Fin 2) * 384 + 1 * n.val = 384 * t.val + n.val; rw [e]; simp; omega

/-- The scale of block `b` in column `n` of the whole matrix. -/
def amG (x2 : Vec Ideal S80x3456 .i8) (x3 : Vec Ideal S10x3456 .f32) (x4 : Vec Ideal S3456 .f32) (b : Fin 80) (n : Fin 3456) : EReal :=
  FloatOps.sitofp (F := Ideal) .f32 (x2 (ix2 b n)) * x3 (ix2 (⟨b.val / 8, by omega⟩ : Fin 10) n) + x4 (ix1 n)

/-- The dequantized weight at row `k` and column `n` of the whole matrix. -/
def wG (x1 : Vec Ideal S2560x3456 .i8) (x2 : Vec Ideal S80x3456 .i8) (x3 : Vec Ideal S10x3456 .f32) (x4 : Vec Ideal S3456 .f32)
    (k : Fin 5120) (n : Fin 3456) : EReal :=
  deq (F := Ideal) (x1 (ix2 (⟨k.val / 2, by omega⟩ : Fin 2560) n)) (k.val % 2) * amG x2 x3 x4 ⟨k.val / 64, by omega⟩ n

/-- The layer's result at row `r` and column `n`: the activations times the dequantized weights, plus twice the
    activations times the two low-rank factors. -/
def yG (x0 : Vec Ideal S8x256x5120 .bf16) (x1 : Vec Ideal S2560x3456 .i8) (x2 : Vec Ideal S80x3456 .i8) (x3 : Vec Ideal S10x3456 .f32)
    (x4 : Vec Ideal S3456 .f32) (x5 : Vec Ideal S5120x16 .bf16) (x6 : Vec Ideal S16x3456 .bf16) (r : Fin 2048) (n : Fin 3456) : EReal :=
  (∑ k : Fin 5120, shapeCast S2048x5120 x0 shapeCasts_S8x256x5120_S2048x5120 (ix2 r k) * wG x1 x2 x3 x4 k n)
    + two * ∑ j : Fin 16, (∑ k : Fin 5120, shapeCast S2048x5120 x0 shapeCasts_S8x256x5120_S2048x5120 (ix2 r k) * x5 (ix2 k j)) * x6 (ix2 j n)

/-- The low-rank activations are the same computed from any point's blocks. -/
theorem hVal_blk (t : Fin cfg0.N) (r : Fin 2048) (j : Fin 16) :
    hVal (iblk m c 0 t) (iblk m c 5 t) r j
      = ∑ k : Fin 5120, shapeCast S2048x5120 (a0 m c) shapeCasts_S8x256x5120_S2048x5120 (ix2 r k) * a5 m c (ix2 k j) := by
  unfold hVal
  simp only [blk0, blk5]

/-- After every point the scratch of low-rank activations holds what the first point left there. -/
theorem carried (r : Fin 2048) (j : Fin 16) : ∀ (n : ℕ) (hn : n < cfg0.N),
    (outsAt0 m c n hn).2 (ix2 r j)
      = ∑ k : Fin 5120, shapeCast S2048x5120 (a0 m c) shapeCasts_S8x256x5120_S2048x5120 (ix2 r k) * a5 m c (ix2 k j)
  | 0, hn => by
    rw [outsAt0_A m c ⟨0, hn⟩ rfl]
    dsimp only
    rw [sout_A_apply, hVal_blk]
  | n + 1, hn => by
    have h9 := lt_of_lt_of_eq hn (show cfg0.N = 9 from N_0)
    rw [outsAt0_B m c ⟨n + 1, hn⟩ (by show ¬ (n + 1) % 9 = 0; omega)]
    exact carried r j n (Nat.lt_of_succ_lt hn)

/-- A point's weights are its column tile of the whole matrix. -/
theorem wVal_blk (t : Fin cfg0.N) (k : Fin 5120) (n : Fin 384) :
    wVal (iblk m c 1 t) (iblk m c 2 t) (iblk m c 3 t) (iblk m c 4 t) k n = wG (a1 m c) (a2 m c) (a3 m c) (a4 m c) k (col t n) := by
  unfold wVal amVal wG amG
  simp only [blk1, blk2, blk3, blk4]
  rfl

/-- A point's block of the result is its column tile of the layer's result. -/
theorem yVal_blk (t : Fin cfg0.N) (h : Fin 2048 → Fin 16 → EReal)
    (hh : ∀ r j, h r j = ∑ k : Fin 5120, shapeCast S2048x5120 (a0 m c) shapeCasts_S8x256x5120_S2048x5120 (ix2 r k) * a5 m c (ix2 k j))
    (r : Fin 2048) (n : Fin 384) :
    yVal (iblk m c 0 t) (wVal (iblk m c 1 t) (iblk m c 2 t) (iblk m c 3 t) (iblk m c 4 t)) h (iblk m c 6 t) r n
      = yG (a0 m c) (a1 m c) (a2 m c) (a3 m c) (a4 m c) (a5 m c) (a6 m c) r (col t n) := by
  unfold yVal yG
  simp only [blk0, blk6, wVal_blk, hh]

/-- What a point leaves in its block of the result. -/
theorem out_blk (t : Fin cfg0.N) (r : Fin 2048) (n : Fin 384) :
    (outsAt0 m c t.val t.isLt).1 (ix2 r n)
      = yG (a0 m c) (a1 m c) (a2 m c) (a3 m c) (a4 m c) (a5 m c) (a6 m c) r (col t n) := by
  by_cases h0 : t.val % 9 = 0
  · rw [outsAt0_A m c t h0]
    dsimp only
    rw [out_A_apply, yVal_blk m c t _ (hVal_blk m c t)]
  · rw [outsAt0_B m c t h0]
    dsimp only
    rw [out_B_apply, yVal_blk m c t _ (fun r j => carried m c r j _ _)]

/-- The kernel's result, element by element. -/
theorem result (r : Fin 2048) (n : Fin 3456) :
    Value.G7 m c (ix2 r n) = yG (a0 m c) (a1 m c) (a2 m c) (a3 m c) (a4 m c) (a5 m c) (a6 m c) r n := by
  have hp : Value.pt7Of (ix2 r n) = n.val / 384 := by
    show 9 * (r.val / 2048 - 0) + 1 * (n.val / 384 - 0) = _
    have := r.isLt; omega
  have hlt : Value.pt7Of (ix2 r n) < cfg0.N := by
    rw [hp, show cfg0.N = 9 from N_0]; have := n.isLt; omega
  have hl : Value.loc7Of (ix2 r n) = ix2 r (⟨n.val % 384, by omega⟩ : Fin 384) := by
    funext a; apply Fin.ext
    match a with
    | ⟨0, _⟩ => exact Nat.mod_eq_of_lt r.isLt
    | ⟨1, _⟩ => rfl
  unfold Value.G7
  rw [dif_pos hlt, ← Value.outsAt0_sweep m c _ hlt, hl, out_blk m c ⟨_, hlt⟩]
  congr 1
  apply Fin.ext
  show 384 * Value.pt7Of (ix2 r n) + n.val % 384 = n.val
  rw [hp]; omega

end Cert.KernelIdeal.Gen.Deq

end
-- ==== Proof.Reference.lean ====
module

public import proofs.«01_k».proof.Proof.Result
public import proofs.«01_k».proof.Proof.Gen.ReferenceIdeal.Run
public import Idealize.ShloMosaic.Lib.Pointwise
@[expose] public section

set_option maxRecDepth 65536

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.Sem

section Parts
variable {F : FTy → Type} [FloatOps F]

/-- The codes of the whole matrix: the low half of each byte, then its high half, row after row. -/
def codes (x1 : Vec F S2560x3456 .i8) : IVec S5120x3456 32 :=
  shapeCast S5120x3456 (concatenate S2560x2x3456 1
    [⟨S2560x1x3456, broadcastInDim S2560x1x3456 ![0, 2] bcast_S2560x3456_S2560x1x3456_0_2
        (andi (extui 32 x1 natLt_8_32) (broadcastInDim S2560x3456 ![] bcast_S_S2560x3456 (constantI S_ 32 15#32)))⟩,
     ⟨S2560x1x3456, broadcastInDim S2560x1x3456 ![0, 2] bcast_S2560x3456_S2560x1x3456_0_2
        (Host.shrsi (extui 32 x1 natLt_8_32) (broadcastInDim S2560x3456 ![] bcast_S_S2560x3456 (constantI S_ 32 4#32)))⟩]
    concatenates_S2560x1x3456_S2560x1x3456_S2560x2x3456_d1) shapeCasts_S2560x2x3456_S5120x3456

/-- Whether a bit of the mask `k` is set in each code. -/
def bits (x1 : Vec F S2560x3456 .i8) (k : BitVec 32) : IVec S5120x3456 1 :=
  cmpi .ne (andi (codes x1) (broadcastInDim S5120x3456 ![] bcast_S_S5120x3456 (constantI S_ 32 k)))
    (broadcastInDim S5120x3456 ![] bcast_S_S5120x3456 (constantI S_ 32 0#32))

/-- One entry of the sixteen-entry table, everywhere. -/
def lv (b : BitVec 16) : FVec F S5120x3456 .bf16 := broadcastInDim S5120x3456 ![] bcast_S_S5120x3456 (constant S_ .bf16 b)

/-- The table looked up by four bits. -/
def table (B1 B2 B4 B8 : IVec S5120x3456 1) : FVec F S5120x3456 .bf16 :=
  select B8
    (select B4 (select B2 (select B1 (lv 0x3F80) (lv 0x3F39)) (select B1 (lv 0x3F10) (lv 0x3EE2)))
      (select B2 (select B1 (lv 0x3EAD) (lv 0x3E7C)) (select B1 (lv 0x3E25) (lv 0x3DA3))))
    (select B4 (select B2 (select B1 (lv 0x0000) (lv 0xBDBA)) (select B1 (lv 0xBE3D) (lv 0xBE92)))
      (select B2 (select B1 (lv 0xBECA) (lv 0xBF06)) (select B1 (lv 0xBF32) (lv 0xBF80))))

/-- The scales of the whole matrix's blocks. -/
def scales (x2 : Vec F S80x3456 .i8) (x3 : Vec F S10x3456 .f32) (x4 : Vec F S3456 .f32) : FVec F S80x3456 .bf16 :=
  truncf .bf16 (addf
    (shapeCast S80x3456 (mulf (shapeCast S10x8x3456 (sitofp .f32 (extsi 32 x2 natLt_8_32)) shapeCasts_S80x3456_S10x8x3456)
      (broadcastInDim S10x8x3456 ![0, 1, 2] bcast_S10x1x3456_S10x8x3456_0_1_2
        (broadcastInDim S10x1x3456 ![0, 2] bcast_S10x3456_S10x1x3456_0_2 x3))) shapeCasts_S10x8x3456_S80x3456)
    (broadcastInDim S80x3456 ![0, 1] bcast_S1x3456_S80x3456_0_1 (broadcastInDim S1x3456 ![1] bcast_S3456_S1x3456_1 x4))) bitsLt_bf16_f32

/-- The dequantized weights: each block of table values times its scale. -/
def weights (vals : FVec F S5120x3456 .bf16) (am : FVec F S80x3456 .bf16) : FVec F S5120x3456 .bf16 :=
  shapeCast S5120x3456 (mulf (shapeCast S80x64x3456 vals shapeCasts_S5120x3456_S80x64x3456)
    (broadcastInDim S80x64x3456 ![0, 1, 2] bcast_S80x1x3456_S80x64x3456_0_1_2
      (broadcastInDim S80x1x3456 ![0, 2] bcast_S80x3456_S80x1x3456_0_2 am))) shapeCasts_S80x64x3456_S5120x3456

/-- The layer over dequantized weights. -/
def layer (x0 : Vec F S8x256x5120 .bf16) (w : FVec F S5120x3456 .bf16) (x5 : Vec F S5120x16 .bf16) (x6 : Vec F S16x3456 .bf16) :
    FVec F S2048x3456 .bf16 :=
  truncf .bf16 (addf
    (Host.dotGeneral dot_S2048x5120_S5120x3456_S2048x3456_1_0_0_1_n_n none (shapeCast S2048x5120 x0 shapeCasts_S8x256x5120_S2048x5120) w)
    (mulf (broadcastInDim S2048x3456 ![] bcast_S_S2048x3456 (constant S_ .f32 0x40000000#32))
      (Host.dotGeneral dot_S2048x16_S16x3456_S2048x3456_1_0_0_1_n_n none
        (truncf .bf16 (Host.dotGeneral dot_S2048x5120_S5120x16_S2048x16_1_0_0_1_n_n none
          (shapeCast S2048x5120 x0 shapeCasts_S8x256x5120_S2048x5120) x5) bitsLt_bf16_f32) x6))) bitsLt_bf16_f32

variable (m : (ℓ : Loc nD τ sig) → Buf (Elt F) ℓ) (c : Dev nD)

/-- The reference's result is the layer over the weights dequantized from its arguments. -/
theorem res_eq : Value.res_out0 m c
    = layer (m ((c.tc : Thread nD τ).loc main_arg0))
        (weights
          (table (bits (m ((c.tc : Thread nD τ).loc main_arg1)) 1#32) (bits (m ((c.tc : Thread nD τ).loc main_arg1)) 2#32)
            (bits (m ((c.tc : Thread nD τ).loc main_arg1)) 4#32) (bits (m ((c.tc : Thread nD τ).loc main_arg1)) 8#32))
          (scales (m ((c.tc : Thread nD τ).loc main_arg2)) (m ((c.tc : Thread nD τ).loc main_arg3)) (m ((c.tc : Thread nD τ).loc main_arg4))))
        (m ((c.tc : Thread nD τ).loc main_arg5)) (m ((c.tc : Thread nD τ).loc main_arg6)) := by
  show Value.res_main_v64 m c = _
  unfold Value.res_main_v64 layer weights table bits codes scales lv
  rfl

open KernelIdeal.Gen.Deq (code has nf4 deq amG wG yG two)

/-- A byte's low half, and its high half, as 32-bit words are its two codes widened. -/
theorem half (p : BitVec 8) (par : ℕ) (hpar : par < 2) :
    (if _h : par < 1 then IntOp.andi (BitVec.setWidth 32 p) 15#32 else IntOp.shrsi ArithUnit.host (BitVec.setWidth 32 p) 4#32)
      = (code p par).setWidth 32 := by
  have h0 : ∀ p : BitVec 8, IntOp.andi (BitVec.setWidth 32 p) 15#32 = (code p 0).setWidth 32 := by decide +kernel
  have h1 : ∀ p : BitVec 8, IntOp.shrsi ArithUnit.host (BitVec.setWidth 32 p) 4#32 = (code p 1).setWidth 32 := by decide +kernel
  match par, hpar with
  | 0, _ => exact h0 p
  | 1, _ => exact h1 p

/-- Row `k`'s code is the low or the high half of its byte, as `k` is even or odd. -/
theorem codes_apply (x1 : Vec F S2560x3456 .i8) (k : Fin 5120) (n : Fin 3456) :
    codes x1 (ix2 k n) = (code (x1 (ix2 (⟨k.val / 2, by omega⟩ : Fin 2560) n)) (k.val % 2)).setWidth 32 := by
  unfold codes
  pointwise
  have e := half (x1 (ix2 (⟨k.val / 2, by omega⟩ : Fin 2560) n)) (k.val % 2) (Nat.mod_lt _ (by decide))
  by_cases h : k.val % 2 < 1
  · rw [dif_pos h] at e ⊢
    exact e
  · rw [dif_neg h] at e ⊢
    exact e

/-- A masked code is nonzero exactly when the widened code, masked by the widened mask, is. -/
theorem has_wide (c k : BitVec 16) : IntOp.cmpi .ne (IntOp.andi (c.setWidth 32) (k.setWidth 32)) 0#32 = has c k := by
  have e : IntOp.andi (c.setWidth 32) (k.setWidth 32) = (IntOp.andi c k).setWidth 32 := BitVec.setWidth_and.symm
  unfold has
  rw [e]
  generalize IntOp.andi c k = w
  have h : (w.setWidth 32 != 0#32) = (w != 0#16) := by
    rw [Bool.eq_iff_iff]
    simp only [bne_iff_ne, ne_eq, not_iff_not]
    constructor
    · intro h
      have := congrArg BitVec.toNat h
      apply BitVec.eq_of_toNat_eq
      rw [BitVec.toNat_setWidth, Nat.mod_eq_of_lt (by have := w.isLt; omega)] at this
      exact this
    · rintro rfl; rfl
  show BitVec.ofBool _ = BitVec.ofBool _
  exact congrArg BitVec.ofBool h

/-- Whether a bit of the mask `q` is set in row `k`'s code. -/
theorem bits_apply (x1 : Vec F S2560x3456 .i8) (q : BitVec 16) (k : Fin 5120) (n : Fin 3456) :
    bits x1 (q.setWidth 32) (ix2 k n) = has (code (x1 (ix2 (⟨k.val / 2, by omega⟩ : Fin 2560) n)) (k.val % 2)) q := by
  unfold bits
  pointwise
  rw [codes_apply]
  exact has_wide _ _

/-- The table's value at row `k`'s code. -/
theorem table_apply (x1 : Vec F S2560x3456 .i8) (k : Fin 5120) (n : Fin 3456) :
    (table (bits x1 1#32) (bits x1 2#32) (bits x1 4#32) (bits x1 8#32) : FVec F S5120x3456 .bf16) (ix2 k n)
      = deq (x1 (ix2 (⟨k.val / 2, by omega⟩ : Fin 2560) n)) (k.val % 2) := by
  have h1 : bits x1 1#32 (ix2 k n) = _ := bits_apply x1 1#16 k n
  have h2 : bits x1 2#32 (ix2 k n) = _ := bits_apply x1 2#16 k n
  have h4 : bits x1 4#32 (ix2 k n) = _ := bits_apply x1 4#16 k n
  have h8 : bits x1 8#32 (ix2 k n) = _ := bits_apply x1 8#16 k n
  unfold deq
  rw [← h1, ← h2, ← h4, ← h8]
  rfl

end Parts

open KernelIdeal.Gen.Deq (code has nf4 deq amG wG yG two)

/-- A byte's value as a number is its value after widening to a word. -/
theorem sitofp_wide (b : BitVec 8) :
    FloatOps.sitofp (F := Ideal) .f32 (BitVec.signExtend 32 b) = FloatOps.sitofp (F := Ideal) .f32 b := by
  simp only [FloatOps.sitofp]
  rw [BitVec.toInt_signExtend_of_le (by decide)]

/-- A block's scale is its code times its group's scale, plus the column's offset. -/
theorem scales_apply (x2 : Vec Ideal S80x3456 .i8) (x3 : Vec Ideal S10x3456 .f32) (x4 : Vec Ideal S3456 .f32) (b : Fin 80) (n : Fin 3456) :
   scales x2 x3 x4 (ix2 b n) = amG x2 x3 x4 b n := by
  unfold scales amG
  pointwise
  rw [sitofp_wide]

/-- A weight is its table value times its block's scale. -/
theorem weights_apply (vals : FVec Ideal S5120x3456 .bf16) (am : FVec Ideal S80x3456 .bf16) (k : Fin 5120) (n : Fin 3456) :
    weights vals am (ix2 k n) = vals (ix2 k n) * am (ix2 (⟨k.val / 64, by omega⟩ : Fin 80) n) := by
  unfold weights
  pointwise

/-- The layer, element by element. -/
theorem layer_apply (x0 : Vec Ideal S8x256x5120 .bf16) (w : FVec Ideal S5120x3456 .bf16) (x5 : Vec Ideal S5120x16 .bf16) (x6 : Vec Ideal S16x3456 .bf16)
    (r : Fin 2048) (n : Fin 3456) : layer x0 w x5 x6 (ix2 r n)
      = (∑ k : Fin 5120, shapeCast S2048x5120 x0 shapeCasts_S8x256x5120_S2048x5120 (ix2 r k) * w (ix2 k n))
    + two * ∑ j : Fin 16, (∑ k : Fin 5120, shapeCast S2048x5120 x0 shapeCasts_S8x256x5120_S2048x5120 (ix2 r k) * x5 (ix2 k j)) * x6 (ix2 j n) := by
  unfold layer
  pointwise

/-- The reference's result, element by element, is the same function of the arguments as the kernel's. -/
theorem result (m : (ℓ : Loc nD τ sig) → Buf (Elt Ideal) ℓ) (c : Dev nD) (r : Fin 2048) (n : Fin 3456) :
    Value.res_out0 m c (ix2 r n)
      = yG (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) r n := by
  rw [res_eq, layer_apply]
  simp only [weights_apply, table_apply, scales_apply]
  rfl

end Cert.ReferenceIdeal.Ref
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Pieces
public import proofs.«01_k».proof.Proof.Weights
public import proofs.«01_k».proof.Proof.Output
public import proofs.«01_k».proof.Proof.Values
public import proofs.«01_k».proof.Proof.Result
public import proofs.«01_k».proof.Proof.Reference
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The reference runs to its end, leaves its arguments unchanged, and has no semaphore to leave raised. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- The ideal program reads each word of two equal bf16 scales as those two numbers. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- Over the extended reals the kernel and the reference compute the same array from the same arguments. -/
theorem algebraic : Cert.algebraic_KernelIdeal_ReferenceIdeal := by
  intro m ρ m' ρ' _ hagree
  refine ⟨fun c => Cert.KernelIdeal.Value.G7 m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  funext (i : Cert.KernelIdeal.S2048x3456.Idx)
  obtain ⟨r, n, rfl⟩ : ∃ r n, i = ix2 r n := ⟨i 0, i 1, by idx_vars i⟩
  refine (Cert.ReferenceIdeal.Ref.result m' c r n).trans (Eq.trans ?_ (Cert.KernelIdeal.Gen.Deq.result m c r n).symm)
  rw [h0, h1, h2, h3, h4, h5, h6]

/-- Everything claimed: the three programs run and leave their arguments, the ideal kernel reads the kernel's bits, and it
    computes what the reference computes. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, preserves, algebraic⟩

end Cert.Proof

end
